-- ==== Defs.lean ====
def Pre_Kernel [hPre_in_types : Cert.Pre_in_types.Facts] (m : (ℓ : Loc Cert.Kernel.nD Cert.Kernel.τ Cert.Kernel.sig) → Buf (Elt Bits) ℓ) : Prop :=
  ∀ c : Dev Cert.Kernel.nD,
    (Cert.Pre_in_types.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_types : Cert.Pre_in_types.Facts] (m : (ℓ : Loc Cert.KernelIdeal.nD Cert.KernelIdeal.τ Cert.KernelIdeal.sig) → Buf (Elt Ideal) ℓ) : Prop :=
  ∀ c : Dev Cert.KernelIdeal.nD,
    (Cert.Pre_in_types.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_types [hPre_in_types : Cert.Pre_in_types.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_types.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_types : Cert.Pre_in_types.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_types : Cert.Pre_in_types.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_types [hReferenceIdeal : Cert.ReferenceIdeal.Facts] [hPre_in_types : Cert.Pre_in_types.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_types m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_types : Cert.Pre_in_types.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_types : Cert.Pre_in_types.Facts),
    quiescent_Kernel (hKernel := hKernel) (hPre_in_types := hPre_in_types)
    ∧ quiescent_KernelIdeal (hKernelIdeal := hKernelIdeal) (hPre_in_types := hPre_in_types)
    ∧ quiescent_ReferenceIdeal (hReferenceIdeal := hReferenceIdeal)
    ∧ quiescent_ReferenceIdeal_pre_in_types (hReferenceIdeal := hReferenceIdeal) (hPre_in_types := hPre_in_types)
    ∧ preserves_Kernel_KernelIdeal
    ∧ algebraic_KernelIdeal_ReferenceIdeal (hKernelIdeal := hKernelIdeal) (hReferenceIdeal := hReferenceIdeal) (hPre_in_types := hPre_in_types)
-- ==== Pre_in_types.lean ====
abbrev S4096x2x24x24 : Shape := ⟨4, ![4096, 2, 24, 24]⟩
abbrev S4096x2 : Shape := ⟨2, ![4096, 2]⟩
abbrev S4x4 : Shape := ⟨2, ![4, 4]⟩
abbrev S_ : Shape := ⟨0, ![]⟩

class Facts : Prop where
  bcast_S_S4096x2x24x24 : S_.BroadcastsInDim S4096x2x24x24 (![] : Fin 0 → Fin S4096x2x24x24.rank)
  reducesTo_S4096x2x24x24_S_d0_1_2_3 : S4096x2x24x24.ReducesTo [0, 1, 2, 3] S_
  h_S_ : 0 < S_.numel

variable [Facts]

def fn {F : FTy → Type} [FloatOps F] (main_arg0 : IVec S4096x2x24x24 32) (main_arg1 : FVec F S4096x2x24x24 .f32) (main_arg2 : IVec S4096x2x24x24 32) (main_arg3 : FVec F S4096x2 .f32) (main_arg4 : FVec F S4x4 .f32) : IVec S_ 1 :=
  let main_c : IVec S_ 32 := constantI S_ 32 0#32
  let main_v0 : IVec S4096x2x24x24 32 := broadcastInDim S4096x2x24x24 ![] bcast_S_S4096x2x24x24 main_c
  let main_v1 : IVec S4096x2x24x24 1 := cmpi .sge main_arg0 main_v0
  let main_c_0 : IVec S_ 32 := constantI S_ 32 4#32
  let main_v2 : IVec S4096x2x24x24 32 := broadcastInDim S4096x2x24x24 ![] bcast_S_S4096x2x24x24 main_c_0
  let main_v3 : IVec S4096x2x24x24 1 := cmpi .slt main_arg0 main_v2
  let main_v4 : IVec S4096x2x24x24 1 := andi main_v1 main_v3
  let main_c_1 : IVec S_ 1 := constantI S_ 1 1#1
  let main_v5 : IVec S_ 1 := (fun x v => Host.reduce IntOp.andi x v reducesTo_S4096x2x24x24_S_d0_1_2_3 h_S_) main_v4 main_c_1
  main_v5
-- ==== Kernel.lean ====
abbrev S4096x2x24x24 : Shape := ⟨4, ![4096, 2, 24, 24]⟩
abbrev S4096x2 : Shape := ⟨2, ![4096, 2]⟩
abbrev S4x4 : Shape := ⟨2, ![4, 4]⟩
abbrev S4718592 : Shape := ⟨1, ![4718592]⟩
abbrev S8192 : Shape := ⟨1, ![8192]⟩
abbrev S8192x16 : Shape := ⟨2, ![8192, 16]⟩
abbrev S131072 : Shape := ⟨1, ![131072]⟩
abbrev S16 : Shape := ⟨1, ![16]⟩
abbrev S33030144 : Shape := ⟨1, ![33030144]⟩
abbrev S4608 : Shape := ⟨1, ![4608]⟩
abbrev S4096 : Shape := ⟨1, ![4096]⟩
abbrev S32256 : Shape := ⟨1, ![32256]⟩
abbrev S_ : Shape := ⟨0, ![]⟩
abbrev S4096x2x24x24x7 : Shape := ⟨5, ![4096, 2, 24, 24, 7]⟩

abbrev nBuf : Table → Nat
  | .hbm => 14
  | .local .scVector .vmem => 6
  | _ => 0

abbrev bufTy : (tb : Table) → Fin (nBuf tb) → BufTy
  | .hbm, ⟨0, _⟩ => ⟨S4096x2x24x24, .i32⟩
  | .hbm, ⟨1, _⟩ => ⟨S4096x2x24x24, .f32⟩
  | .hbm, ⟨2, _⟩ => ⟨S4096x2x24x24, .i32⟩
  | .hbm, ⟨3, _⟩ => ⟨S4096x2, .f32⟩
  | .hbm, ⟨4, _⟩ => ⟨S4x4, .f32⟩
  | .hbm, ⟨5, _⟩ => ⟨S4718592, .i32⟩
  | .hbm, ⟨6, _⟩ => ⟨S4718592, .f32⟩
  | .hbm, ⟨7, _⟩ => ⟨S4718592, .i32⟩
  | .hbm, ⟨8, _⟩ => ⟨S8192, .f32⟩
  | .hbm, ⟨9, _⟩ => ⟨S8192x16, .f32⟩
  | .hbm, ⟨10, _⟩ => ⟨S131072, .f32⟩
  | .hbm, ⟨11, _⟩ => ⟨S16, .f32⟩
  | .hbm, ⟨12, _⟩ => ⟨S33030144, .f32⟩
  | .hbm, ⟨13, _⟩ => ⟨S4096x2x24x24x7, .f32⟩
  | .local .scVector .vmem, ⟨0, _⟩ => ⟨S4608, .i32⟩
  | .local .scVector .vmem, ⟨1, _⟩ => ⟨S4608, .f32⟩
  | .local .scVector .vmem, ⟨2, _⟩ => ⟨S4608, .i32⟩
  | .local .scVector .vmem, ⟨3, _⟩ => ⟨S4096, .f32⟩
  | .local .scVector .vmem, ⟨4, _⟩ => ⟨S16, .f32⟩
  | .local .scVector .vmem, ⟨5, _⟩ => ⟨S32256, .f32⟩
  | _, _ => ⟨S4096x2x24x24, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_v5_scv : Ref sig .scVector := ⟨.hbm, 10, rfl⟩
abbrev main_v6_scv : Ref sig .scVector := ⟨.hbm, 11, rfl⟩
abbrev main_v7_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c16_i32 : BitVec 32 := 16#32
  let v3 : BitVec 32 := Scalar.muli v2 c16_i32
  ![v3.toNat]
@[reducible] def k0_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_2 : BitVec 32 := 256#32
  let v8 : BitVec 32 := Scalar.muli v1 c256_i32_2
  let c0_i32_0 : BitVec 32 := 0#32
  let c1_i32 : BitVec 32 := 1#32
  let arg14 : BitVec 32 := Scf.iv c0_i32_0 c1_i32 k0_t1
  let c8_i32 : BitVec 32 := 8#32
  let v9 : BitVec 32 := Scalar.muli arg14 c8_i32
  let v10 : BitVec 32 := Scalar.addi v8 v9
  let c576_i32 : BitVec 32 := 576#32
  let v11 : BitVec 32 := Scalar.muli v10 c576_i32
  ![v11.toNat]
@[reducible] def k0_t2_loop : Scf.Loop 32 :=
  let c0_i32_6 : BitVec 32 := 0#32
  let c8_i32_7 : BitVec 32 := 8#32
  let v14 : BitVec 32 := Scalar.addi c0_i32_6 c8_i32_7
  let c1_i32_8 : BitVec 32 := 1#32
  ⟨c0_i32_6, v14, c1_i32_8⟩
def k0_off3 (k0_t1 : Fin k0_t1_loop.trips) (k0_t2 : Fin k0_t2_loop.trips) : Fin 1 → Nat :=
  let c0_i32_0 : BitVec 32 := 0#32
  let c1_i32 : BitVec 32 := 1#32
  let arg14 : BitVec 32 := Scf.iv c0_i32_0 c1_i32 k0_t1
  let c8_i32_12 : BitVec 32 := 8#32
  let v17 : BitVec 32 := Scalar.muli arg14 c8_i32_12
  let c0_i32_6 : BitVec 32 := 0#32
  let c1_i32_8 : BitVec 32 := 1#32
  let arg15 : BitVec 32 := Scf.iv c0_i32_6 c1_i32_8 k0_t2
  let v18 : BitVec 32 := Scalar.addi v17 arg15
  let c16_i32_13 : BitVec 32 := 16#32
  let v19 : BitVec 32 := Scalar.muli v18 c16_i32_13
  let v20 : Index := Scalar.indexCast v19
  ![v20.toNat]
def k0_off4 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_14 : BitVec 32 := 576#32
  let v22 : BitVec 32 := Scalar.muli arg15 c576_i32_14
  let c0_i32_15 : BitVec 32 := 0#32
  let v23 : BitVec 32 := Scalar.addi v22 c0_i32_15
  let v24 : Index := Scalar.indexCast v23
  ![v24.toNat]

def k0_chk1 (v31 : IVec S16 32) : Prop :=
  (∀ a x, ((![v31] : Fin 1 → IVec S16 32) a x).toNat < S16.size a)
theorem k0_idx1_inb : ∀ (v31 : IVec S16 32) (k0_hw1 : k0_chk1 v31), ∀ a x, ((![v31] : Fin 1 → IVec S16 32) a x).toNat < S16.size a := fun v31 k0_hw1 => k0_hw1

def k0_chk2 (v37 : IVec S16 32) : Prop :=
  (∀ a x, ((![v37] : Fin 1 → IVec S16 32) a x).toNat < S16.size a)
theorem k0_idx2_inb : ∀ (v37 : IVec S16 32) (k0_hw2 : k0_chk2 v37), ∀ a x, ((![v37] : Fin 1 → IVec S16 32) a x).toNat < S16.size a := fun v37 k0_hw2 => k0_hw2

def k0_chk3 (v40 : IVec S16 32) : Prop :=
  (∀ a x, ((![v40] : Fin 1 → IVec S16 32) a x).toNat < S16.size a)
theorem k0_idx3_inb : ∀ (v40 : IVec S16 32) (k0_hw3 : k0_chk3 v40), ∀ a x, ((![v40] : Fin 1 → IVec S16 32) a x).toNat < S16.size a := fun v40 k0_hw3 => k0_hw3

def k0_chk4 (v43 : IVec S16 32) : Prop :=
  (∀ a x, ((![v43] : Fin 1 → IVec S16 32) a x).toNat < S16.size a)
theorem k0_idx4_inb : ∀ (v43 : IVec S16 32) (k0_hw4 : k0_chk4 v43), ∀ a x, ((![v43] : Fin 1 → IVec S16 32) a x).toNat < S16.size a := fun v43 k0_hw4 => k0_hw4

def k0_chk5 (v34 : IVec S16 32) : Prop :=
  (∀ a x, ((![v34] : Fin 1 → IVec S16 32) a x).toNat < S32256.size a)
theorem k0_idx5_inb : ∀ (v34 : IVec S16 32) (k0_hw5 : k0_chk5 v34), ∀ a x, ((![v34] : Fin 1 → IVec S16 32) a x).toNat < S32256.size a := fun v34 k0_hw5 => k0_hw5

def k0_chk6 (v46 : IVec S16 32) : Prop :=
  (∀ a x, ((![v46] : Fin 1 → IVec S16 32) a x).toNat < S32256.size a)
theorem k0_idx6_inb : ∀ (v46 : IVec S16 32) (k0_hw6 : k0_chk6 v46), ∀ a x, ((![v46] : Fin 1 → IVec S16 32) a x).toNat < S32256.size a := fun v46 k0_hw6 => k0_hw6

def k0_chk7 (v48 : IVec S16 32) : Prop :=
  (∀ a x, ((![v48] : Fin 1 → IVec S16 32) a x).toNat < S32256.size a)
theorem k0_idx7_inb : ∀ (v48 : IVec S16 32) (k0_hw7 : k0_chk7 v48), ∀ a x, ((![v48] : Fin 1 → IVec S16 32) a x).toNat < S32256.size a := fun v48 k0_hw7 => k0_hw7

def k0_chk8 (v50 : IVec S16 32) : Prop :=
  (∀ a x, ((![v50] : Fin 1 → IVec S16 32) a x).toNat < S32256.size a)
theorem k0_idx8_inb : ∀ (v50 : IVec S16 32) (k0_hw8 : k0_chk8 v50), ∀ a x, ((![v50] : Fin 1 → IVec S16 32) a x).toNat < S32256.size a := fun v50 k0_hw8 => k0_hw8

def k0_chk9 (v52 : IVec S16 32) : Prop :=
  (∀ a x, ((![v52] : Fin 1 → IVec S16 32) a x).toNat < S32256.size a)
theorem k0_idx9_inb : ∀ (v52 : IVec S16 32) (k0_hw9 : k0_chk9 v52), ∀ a x, ((![v52] : Fin 1 → IVec S16 32) a x).toNat < S32256.size a := fun v52 k0_hw9 => k0_hw9

def k0_chk10 (v54 : IVec S16 32) : Prop :=
  (∀ a x, ((![v54] : Fin 1 → IVec S16 32) a x).toNat < S32256.size a)
theorem k0_idx10_inb : ∀ (v54 : IVec S16 32) (k0_hw10 : k0_chk10 v54), ∀ a x, ((![v54] : Fin 1 → IVec S16 32) a x).toNat < S32256.size a := fun v54 k0_hw10 => k0_hw10

def k0_chk11 (v57 : IVec S16 32) : Prop :=
  (∀ a x, ((![v57] : Fin 1 → IVec S16 32) a x).toNat < S32256.size a)
theorem k0_idx11_inb : ∀ (v57 : IVec S16 32) (k0_hw11 : k0_chk11 v57), ∀ a x, ((![v57] : Fin 1 → IVec S16 32) a x).toNat < S32256.size a := fun v57 k0_hw11 => k0_hw11
def k0_off5 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_23 : BitVec 32 := 576#32
  let v58 : BitVec 32 := Scalar.muli arg15 c576_i32_23
  let c16_i32_24 : BitVec 32 := 16#32
  let v59 : BitVec 32 := Scalar.addi v58 c16_i32_24
  let v60 : Index := Scalar.indexCast v59
  ![v60.toNat]

def k0_chk12 (v67 : IVec S16 32) : Prop :=
  (∀ a x, ((![v67] : Fin 1 → IVec S16 32) a x).toNat < S16.size a)
theorem k0_idx12_inb : ∀ (v67 : IVec S16 32) (k0_hw12 : k0_chk12 v67), ∀ a x, ((![v67] : Fin 1 → IVec S16 32) a x).toNat < S16.size a := fun v67 k0_hw12 => k0_hw12

def k0_chk13 (v73 : IVec S16 32) : Prop :=
  (∀ a x, ((![v73] : Fin 1 → IVec S16 32) a x).toNat < S16.size a)
theorem k0_idx13_inb : ∀ (v73 : IVec S16 32) (k0_hw13 : k0_chk13 v73), ∀ a x, ((![v73] : Fin 1 → IVec S16 32) a x).toNat < S16.size a := fun v73 k0_hw13 => k0_hw13

def k0_chk14 (v76 : IVec S16 32) : Prop :=
  (∀ a x, ((![v76] : Fin 1 → IVec S16 32) a x).toNat < S16.size a)
theorem k0_idx14_inb : ∀ (v76 : IVec S16 32) (k0_hw14 : k0_chk14 v76), ∀ a x, ((![v76] : Fin 1 → IVec S16 32) a x).toNat < S16.size a := fun v76 k0_hw14 => k0_hw14

def k0_chk15 (v79 : IVec S16 32) : Prop :=
  (∀ a x, ((![v79] : Fin 1 → IVec S16 32) a x).toNat < S16.size a)
theorem k0_idx15_inb : ∀ (v79 : IVec S16 32) (k0_hw15 : k0_chk15 v79), ∀ a x, ((![v79] : Fin 1 → IVec S16 32) a x).toNat < S16.size a := fun v79 k0_hw15 => k0_hw15

def k0_chk16 (v70 : IVec S16 32) : Prop :=
  (∀ a x, ((![v70] : Fin 1 → IVec S16 32) a x).toNat < S32256.size a)
theorem k0_idx16_inb : ∀ (v70 : IVec S16 32) (k0_hw16 : k0_chk16 v70), ∀ a x, ((![v70] : Fin 1 → IVec S16 32) a x).toNat < S32256.size a := fun v70 k0_hw16 => k0_hw16

def k0_chk17 (v82 : IVec S16 32) : Prop :=
  (∀ a x, ((![v82] : Fin 1 → IVec S16 32) a x).toNat < S32256.size a)
theorem k0_idx17_inb : ∀ (v82 : IVec S16 32) (k0_hw17 : k0_chk17 v82), ∀ a x, ((![v82] : Fin 1 → IVec S16 32) a x).toNat < S32256.size a := fun v82 k0_hw17 => k0_hw17

def k0_chk18 (v84 : IVec S16 32) : Prop :=
  (∀ a x, ((![v84] : Fin 1 → IVec S16 32) a x).toNat < S32256.size a)
theorem k0_idx18_inb : ∀ (v84 : IVec S16 32) (k0_hw18 : k0_chk18 v84), ∀ a x, ((![v84] : Fin 1 → IVec S16 32) a x).toNat < S32256.size a := fun v84 k0_hw18 => k0_hw18

def k0_chk19 (v86 : IVec S16 32) : Prop :=
  (∀ a x, ((![v86] : Fin 1 → IVec S16 32) a x).toNat < S32256.size a)
theorem k0_idx19_inb : ∀ (v86 : IVec S16 32) (k0_hw19 : k0_chk19 v86), ∀ a x, ((![v86] : Fin 1 → IVec S16 32) a x).toNat < S32256.size a := fun v86 k0_hw19 => k0_hw19

def k0_chk20 (v88 : IVec S16 32) : Prop :=
  (∀ a x, ((![v88] : Fin 1 → IVec S16 32) a x).toNat < S32256.size a)
theorem k0_idx20_inb : ∀ (v88 : IVec S16 32) (k0_hw20 : k0_chk20 v88), ∀ a x, ((![v88] : Fin 1 → IVec S16 32) a x).toNat < S32256.size a := fun v88 k0_hw20 => k0_hw20

def k0_chk21 (v90 : IVec S16 32) : Prop :=
  (∀ a x, ((![v90] : Fin 1 → IVec S16 32) a x).toNat < S32256.size a)
theorem k0_idx21_inb : ∀ (v90 : IVec S16 32) (k0_hw21 : k0_chk21 v90), ∀ a x, ((![v90] : Fin 1 → IVec S16 32) a x).toNat < S32256.size a := fun v90 k0_hw21 => k0_hw21

def k0_chk22 (v93 : IVec S16 32) : Prop :=
  (∀ a x, ((![v93] : Fin 1 → IVec S16 32) a x).toNat < S32256.size a)
theorem k0_idx22_inb : ∀ (v93 : IVec S16 32) (k0_hw22 : k0_chk22 v93), ∀ a x, ((![v93] : Fin 1 → IVec S16 32) a x).toNat < S32256.size a := fun v93 k0_hw22 => k0_hw22
def k0_off6 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_36 : BitVec 32 := 576#32
  let v94 : BitVec 32 := Scalar.muli arg15 c576_i32_36
  let c32_i32_37 : BitVec 32 := 32#32
  let v95 : BitVec 32 := Scalar.addi v94 c32_i32_37
  let v96 : Index := Scalar.indexCast v95
  ![v96.toNat]

def k0_chk23 (v103 : IVec S16 32) : Prop :=
  (∀ a x, ((![v103] : Fin 1 → IVec S16 32) a x).toNat < S16.size a)
theorem k0_idx23_inb : ∀ (v103 : IVec S16 32) (k0_hw23 : k0_chk23 v103), ∀ a x, ((![v103] : Fin 1 → IVec S16 32) a x).toNat < S16.size a := fun v103 k0_hw23 => k0_hw23

def k0_chk24 (v109 : IVec S16 32) : Prop :=
  (∀ a x, ((![v109] : Fin 1 → IVec S16 32) a x).toNat < S16.size a)
theorem k0_idx24_inb : ∀ (v109 : IVec S16 32) (k0_hw24 : k0_chk24 v109), ∀ a x, ((![v109] : Fin 1 → IVec S16 32) a x).toNat < S16.size a := fun v109 k0_hw24 => k0_hw24

def k0_chk25 (v112 : IVec S16 32) : Prop :=
  (∀ a x, ((![v112] : Fin 1 → IVec S16 32) a x).toNat < S16.size a)
theorem k0_idx25_inb : ∀ (v112 : IVec S16 32) (k0_hw25 : k0_chk25 v112), ∀ a x, ((![v112] : Fin 1 → IVec S16 32) a x).toNat < S16.size a := fun v112 k0_hw25 => k0_hw25

def k0_chk26 (v115 : IVec S16 32) : Prop :=
  (∀ a x, ((![v115] : Fin 1 → IVec S16 32) a x).toNat < S16.size a)
theorem k0_idx26_inb : ∀ (v115 : IVec S16 32) (k0_hw26 : k0_chk26 v115), ∀ a x, ((![v115] : Fin 1 → IVec S16 32) a x).toNat < S16.size a := fun v115 k0_hw26 => k0_hw26

def k0_chk27 (v106 : IVec S16 32) : Prop :=
  (∀ a x, ((![v106] : Fin 1 → IVec S16 32) a x).toNat < S32256.size a)
theorem k0_idx27_inb : ∀ (v106 : IVec S16 32) (k0_hw27 : k0_chk27 v106), ∀ a x, ((![v106] : Fin 1 → IVec S16 32) a x).toNat < S32256.size a := fun v106 k0_hw27 => k0_hw27

def k0_chk28 (v118 : IVec S16 32) : Prop :=
  (∀ a x, ((![v118] : Fin 1 → IVec S16 32) a x).toNat < S32256.size a)
theorem k0_idx28_inb : ∀ (v118 : IVec S16 32) (k0_hw28 : k0_chk28 v118), ∀ a x, ((![v118] : Fin 1 → IVec S16 32) a x).toNat < S32256.size a := fun v118 k0_hw28 => k0_hw28

def k0_chk29 (v120 : IVec S16 32) : Prop :=
  (∀ a x, ((![v120] : Fin 1 → IVec S16 32) a x).toNat < S32256.size a)
theorem k0_idx29_inb : ∀ (v120 : IVec S16 32) (k0_hw29 : k0_chk29 v120), ∀ a x, ((![v120] : Fin 1 → IVec S16 32) a x).toNat < S32256.size a := fun v120 k0_hw29 => k0_hw29

def k0_chk30 (v122 : IVec S16 32) : Prop :=
  (∀ a x, ((![v122] : Fin 1 → IVec S16 32) a x).toNat < S32256.size a)
theorem k0_idx30_inb : ∀ (v122 : IVec S16 32) (k0_hw30 : k0_chk30 v122), ∀ a x, ((![v122] : Fin 1 → IVec S16 32) a x).toNat < S32256.size a := fun v122 k0_hw30 => k0_hw30

def k0_chk31 (v124 : IVec S16 32) : Prop :=
  (∀ a x, ((![v124] : Fin 1 → IVec S16 32) a x).toNat < S32256.size a)
theorem k0_idx31_inb : ∀ (v124 : IVec S16 32) (k0_hw31 : k0_chk31 v124), ∀ a x, ((![v124] : Fin 1 → IVec S16 32) a x).toNat < S32256.size a := fun v124 k0_hw31 => k0_hw31

def k0_chk32 (v126 : IVec S16 32) : Prop :=
  (∀ a x, ((![v126] : Fin 1 → IVec S16 32) a x).toNat < S32256.size a)
theorem k0_idx32_inb : ∀ (v126 : IVec S16 32) (k0_hw32 : k0_chk32 v126), ∀ a x, ((![v126] : Fin 1 → IVec S16 32) a x).toNat < S32256.size a := fun v126 k0_hw32 => k0_hw32

def k0_chk33 (v129 : IVec S16 32) : Prop :=
  (∀ a x, ((![v129] : Fin 1 → IVec S16 32) a x).toNat < S32256.size a)
theorem k0_idx33_inb : ∀ (v129 : IVec S16 32) (k0_hw33 : k0_chk33 v129), ∀ a x, ((![v129] : Fin 1 → IVec S16 32) a x).toNat < S32256.size a := fun v129 k0_hw33 => k0_hw33
def k0_off7 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_49 : BitVec 32 := 576#32
  let v130 : BitVec 32 := Scalar.muli arg15 c576_i32_49
  let c48_i32 : BitVec 32 := 48#32
  let v131 : BitVec 32 := Scalar.addi v130 c48_i32
  let v132 : Index := Scalar.indexCast v131
  ![v132.toNat]

def k0_chk34 (v139 : IVec S16 32) : Prop :=
  (∀ a x, ((![v139] : Fin 1 → IVec S16 32) a x).toNat < S16.size a)
theorem k0_idx34_inb : ∀ (v139 : IVec S16 32) (k0_hw34 : k0_chk34 v139), ∀ a x, ((![v139] : Fin 1 → IVec S16 32) a x).toNat < S16.size a := fun v139 k0_hw34 => k0_hw34

def k0_chk35 (v145 : IVec S16 32) : Prop :=
  (∀ a x, ((![v145] : Fin 1 → IVec S16 32) a x).toNat < S16.size a)
theorem k0_idx35_inb : ∀ (v145 : IVec S16 32) (k0_hw35 : k0_chk35 v145), ∀ a x, ((![v145] : Fin 1 → IVec S16 32) a x).toNat < S16.size a := fun v145 k0_hw35 => k0_hw35

def k0_chk36 (v148 : IVec S16 32) : Prop :=
  (∀ a x, ((![v148] : Fin 1 → IVec S16 32) a x).toNat < S16.size a)
theorem k0_idx36_inb : ∀ (v148 : IVec S16 32) (k0_hw36 : k0_chk36 v148), ∀ a x, ((![v148] : Fin 1 → IVec S16 32) a x).toNat < S16.size a := fun v148 k0_hw36 => k0_hw36

def k0_chk37 (v151 : IVec S16 32) : Prop :=
  (∀ a x, ((![v151] : Fin 1 → IVec S16 32) a x).toNat < S16.size a)
theorem k0_idx37_inb : ∀ (v151 : IVec S16 32) (k0_hw37 : k0_chk37 v151), ∀ a x, ((![v151] : Fin 1 → IVec S16 32) a x).toNat < S16.size a := fun v151 k0_hw37 => k0_hw37

def k0_chk38 (v142 : IVec S16 32) : Prop :=
  (∀ a x, ((![v142] : Fin 1 → IVec S16 32) a x).toNat < S32256.size a)
theorem k0_idx38_inb : ∀ (v142 : IVec S16 32) (k0_hw38 : k0_chk38 v142), ∀ a x, ((![v142] : Fin 1 → IVec S16 32) a x).toNat < S32256.size a := fun v142 k0_hw38 => k0_hw38

def k0_chk39 (v154 : IVec S16 32) : Prop :=
  (∀ a x, ((![v154] : Fin 1 → IVec S16 32) a x).toNat < S32256.size a)
theorem k0_idx39_inb : ∀ (v154 : IVec S16 32) (k0_hw39 : k0_chk39 v154), ∀ a x, ((![v154] : Fin 1 → IVec S16 32) a x).toNat < S32256.size a := fun v154 k0_hw39 => k0_hw39

def k0_chk40 (v156 : IVec S16 32) : Prop :=
  (∀ a x, ((![v156] : Fin 1 → IVec S16 32) a x).toNat < S32256.size a)
theorem k0_idx40_inb : ∀ (v156 : IVec S16 32) (k0_hw40 : k0_chk40 v156), ∀ a x, ((![v156] : Fin 1 → IVec S16 32) a x).toNat < S32256.size a := fun v156 k0_hw40 => k0_hw40

def k0_chk41 (v158 : IVec S16 32) : Prop :=
  (∀ a x, ((![v158] : Fin 1 → IVec S16 32) a x).toNat < S32256.size a)
theorem k0_idx41_inb : ∀ (v158 : IVec S16 32) (k0_hw41 : k0_chk41 v158), ∀ a x, ((![v158] : Fin 1 → IVec S16 32) a x).toNat < S32256.size a := fun v158 k0_hw41 => k0_hw41

def k0_chk42 (v160 : IVec S16 32) : Prop :=
  (∀ a x, ((![v160] : Fin 1 → IVec S16 32) a x).toNat < S32256.size a)
theorem k0_idx42_inb : ∀ (v160 : IVec S16 32) (k0_hw42 : k0_chk42 v160), ∀ a x, ((![v160] : Fin 1 → IVec S16 32) a x).toNat < S32256.size a := fun v160 k0_hw42 => k0_hw42

def k0_chk43 (v162 : IVec S16 32) : Prop :=
  (∀ a x, ((![v162] : Fin 1 → IVec S16 32) a x).toNat < S32256.size a)
theorem k0_idx43_inb : ∀ (v162 : IVec S16 32) (k0_hw43 : k0_chk43 v162), ∀ a x, ((![v162] : Fin 1 → IVec S16 32) a x).toNat < S32256.size a := fun v162 k0_hw43 => k0_hw43

def k0_chk44 (v165 : IVec S16 32) : Prop :=
  (∀ a x, ((![v165] : Fin 1 → IVec S16 32) a x).toNat < S32256.size a)
theorem k0_idx44_inb : ∀ (v165 : IVec S16 32) (k0_hw44 : k0_chk44 v165), ∀ a x, ((![v165] : Fin 1 → IVec S16 32) a x).toNat < S32256.size a := fun v165 k0_hw44 => k0_hw44
def k0_off8 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_61 : BitVec 32 := 576#32
  let v166 : BitVec 32 := Scalar.muli arg15 c576_i32_61
  let c64_i32 : BitVec 32 := 64#32
  let v167 : BitVec 32 := Scalar.addi v166 c64_i32
  let v168 : Index := Scalar.indexCast v167
  ![v168.toNat]

def k0_chk45 (v175 : IVec S16 32) : Prop :=
  (∀ a x, ((![v175] : Fin 1 → IVec S16 32) a x).toNat < S16.size a)
theorem k0_idx45_inb : ∀ (v175 : IVec S16 32) (k0_hw45 : k0_chk45 v175), ∀ a x, ((![v175] : Fin 1 → IVec S16 32) a x).toNat < S16.size a := fun v175 k0_hw45 => k0_hw45

def k0_chk46 (v181 : IVec S16 32) : Prop :=
  (∀ a x, ((![v181] : Fin 1 → IVec S16 32) a x).toNat < S16.size a)
theorem k0_idx46_inb : ∀ (v181 : IVec S16 32) (k0_hw46 : k0_chk46 v181), ∀ a x, ((![v181] : Fin 1 → IVec S16 32) a x).toNat < S16.size a := fun v181 k0_hw46 => k0_hw46

def k0_chk47 (v184 : IVec S16 32) : Prop :=
  (∀ a x, ((![v184] : Fin 1 → IVec S16 32) a x).toNat < S16.size a)
theorem k0_idx47_inb : ∀ (v184 : IVec S16 32) (k0_hw47 : k0_chk47 v184), ∀ a x, ((![v184] : Fin 1 → IVec S16 32) a x).toNat < S16.size a := fun v184 k0_hw47 => k0_hw47

def k0_chk48 (v187 : IVec S16 32) : Prop :=
  (∀ a x, ((![v187] : Fin 1 → IVec S16 32) a x).toNat < S16.size a)
theorem k0_idx48_inb : ∀ (v187 : IVec S16 32) (k0_hw48 : k0_chk48 v187), ∀ a x, ((![v187] : Fin 1 → IVec S16 32) a x).toNat < S16.size a := fun v187 k0_hw48 => k0_hw48

def k0_chk49 (v178 : IVec S16 32) : Prop :=
  (∀ a x, ((![v178] : Fin 1 → IVec S16 32) a x).toNat < S32256.size a)
theorem k0_idx49_inb : ∀ (v178 : IVec S16 32) (k0_hw49 : k0_chk49 v178), ∀ a x, ((![v178] : Fin 1 → IVec S16 32) a x).toNat < S32256.size a := fun v178 k0_hw49 => k0_hw49

def k0_chk50 (v190 : IVec S16 32) : Prop :=
  (∀ a x, ((![v190] : Fin 1 → IVec S16 32) a x).toNat < S32256.size a)
theorem k0_idx50_inb : ∀ (v190 : IVec S16 32) (k0_hw50 : k0_chk50 v190), ∀ a x, ((![v190] : Fin 1 → IVec S16 32) a x).toNat < S32256.size a := fun v190 k0_hw50 => k0_hw50

def k0_chk51 (v192 : IVec S16 32) : Prop :=
  (∀ a x, ((![v192] : Fin 1 → IVec S16 32) a x).toNat < S32256.size a)
theorem k0_idx51_inb : ∀ (v192 : IVec S16 32) (k0_hw51 : k0_chk51 v192), ∀ a x, ((![v192] : Fin 1 → IVec S16 32) a x).toNat < S32256.size a := fun v192 k0_hw51 => k0_hw51

def k0_chk52 (v194 : IVec S16 32) : Prop :=
  (∀ a x, ((![v194] : Fin 1 → IVec S16 32) a x).toNat < S32256.size a)
theorem k0_idx52_inb : ∀ (v194 : IVec S16 32) (k0_hw52 : k0_chk52 v194), ∀ a x, ((![v194] : Fin 1 → IVec S16 32) a x).toNat < S32256.size a := fun v194 k0_hw52 => k0_hw52

def k0_chk53 (v196 : IVec S16 32) : Prop :=
  (∀ a x, ((![v196] : Fin 1 → IVec S16 32) a x).toNat < S32256.size a)
theorem k0_idx53_inb : ∀ (v196 : IVec S16 32) (k0_hw53 : k0_chk53 v196), ∀ a x, ((![v196] : Fin 1 → IVec S16 32) a x).toNat < S32256.size a := fun v196 k0_hw53 => k0_hw53

def k0_chk54 (v198 : IVec S16 32) : Prop :=
  (∀ a x, ((![v198] : Fin 1 → IVec S16 32) a x).toNat < S32256.size a)
theorem k0_idx54_inb : ∀ (v198 : IVec S16 32) (k0_hw54 : k0_chk54 v198), ∀ a x, ((![v198] : Fin 1 → IVec S16 32) a x).toNat < S32256.size a := fun v198 k0_hw54 => k0_hw54

def k0_chk55 (v201 : IVec S16 32) : Prop :=
  (∀ a x, ((![v201] : Fin 1 → IVec S16 32) a x).toNat < S32256.size a)
theorem k0_idx55_inb : ∀ (v201 : IVec S16 32) (k0_hw55 : k0_chk55 v201), ∀ a x, ((![v201] : Fin 1 → IVec S16 32) a x).toNat < S32256.size a := fun v201 k0_hw55 => k0_hw55
def k0_off9 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_73 : BitVec 32 := 576#32
  let v202 : BitVec 32 := Scalar.muli arg15 c576_i32_73
  let c80_i32 : BitVec 32 := 80#32
  let v203 : BitVec 32 := Scalar.addi v202 c80_i32
  let v204 : Index := Scalar.indexCast v203
  ![v204.toNat]

def k0_chk56 (v211 : IVec S16 32) : Prop :=
  (∀ a x, ((![v211] : Fin 1 → IVec S16 32) a x).toNat < S16.size a)
theorem k0_idx56_inb : ∀ (v211 : IVec S16 32) (k0_hw56 : k0_chk56 v211), ∀ a x, ((![v211] : Fin 1 → IVec S16 32) a x).toNat < S16.size a := fun v211 k0_hw56 => k0_hw56

def k0_chk57 (v217 : IVec S16 32) : Prop :=
  (∀ a x, ((![v217] : Fin 1 → IVec S16 32) a x).toNat < S16.size a)
theorem k0_idx57_inb : ∀ (v217 : IVec S16 32) (k0_hw57 : k0_chk57 v217), ∀ a x, ((![v217] : Fin 1 → IVec S16 32) a x).toNat < S16.size a := fun v217 k0_hw57 => k0_hw57

def k0_chk58 (v220 : IVec S16 32) : Prop :=
  (∀ a x, ((![v220] : Fin 1 → IVec S16 32) a x).toNat < S16.size a)
theorem k0_idx58_inb : ∀ (v220 : IVec S16 32) (k0_hw58 : k0_chk58 v220), ∀ a x, ((![v220] : Fin 1 → IVec S16 32) a x).toNat < S16.size a := fun v220 k0_hw58 => k0_hw58

def k0_chk59 (v223 : IVec S16 32) : Prop :=
  (∀ a x, ((![v223] : Fin 1 → IVec S16 32) a x).toNat < S16.size a)
theorem k0_idx59_inb : ∀ (v223 : IVec S16 32) (k0_hw59 : k0_chk59 v223), ∀ a x, ((![v223] : Fin 1 → IVec S16 32) a x).toNat < S16.size a := fun v223 k0_hw59 => k0_hw59

def k0_chk60 (v214 : IVec S16 32) : Prop :=
  (∀ a x, ((![v214] : Fin 1 → IVec S16 32) a x).toNat < S32256.size a)
theorem k0_idx60_inb : ∀ (v214 : IVec S16 32) (k0_hw60 : k0_chk60 v214), ∀ a x, ((![v214] : Fin 1 → IVec S16 32) a x).toNat < S32256.size a := fun v214 k0_hw60 => k0_hw60

def k0_chk61 (v226 : IVec S16 32) : Prop :=
  (∀ a x, ((![v226] : Fin 1 → IVec S16 32) a x).toNat < S32256.size a)
theorem k0_idx61_inb : ∀ (v226 : IVec S16 32) (k0_hw61 : k0_chk61 v226), ∀ a x, ((![v226] : Fin 1 → IVec S16 32) a x).toNat < S32256.size a := fun v226 k0_hw61 => k0_hw61

def k0_chk62 (v228 : IVec S16 32) : Prop :=
  (∀ a x, ((![v228] : Fin 1 → IVec S16 32) a x).toNat < S32256.size a)
theorem k0_idx62_inb : ∀ (v228 : IVec S16 32) (k0_hw62 : k0_chk62 v228), ∀ a x, ((![v228] : Fin 1 → IVec S16 32) a x).toNat < S32256.size a := fun v228 k0_hw62 => k0_hw62

def k0_chk63 (v230 : IVec S16 32) : Prop :=
  (∀ a x, ((![v230] : Fin 1 → IVec S16 32) a x).toNat < S32256.size a)
theorem k0_idx63_inb : ∀ (v230 : IVec S16 32) (k0_hw63 : k0_chk63 v230), ∀ a x, ((![v230] : Fin 1 → IVec S16 32) a x).toNat < S32256.size a := fun v230 k0_hw63 => k0_hw63

def k0_chk64 (v232 : IVec S16 32) : Prop :=
  (∀ a x, ((![v232] : Fin 1 → IVec S16 32) a x).toNat < S32256.size a)
theorem k0_idx64_inb : ∀ (v232 : IVec S16 32) (k0_hw64 : k0_chk64 v232), ∀ a x, ((![v232] : Fin 1 → IVec S16 32) a x).toNat < S32256.size a := fun v232 k0_hw64 => k0_hw64

def k0_chk65 (v234 : IVec S16 32) : Prop :=
  (∀ a x, ((![v234] : Fin 1 → IVec S16 32) a x).toNat < S32256.size a)
theorem k0_idx65_inb : ∀ (v234 : IVec S16 32) (k0_hw65 : k0_chk65 v234), ∀ a x, ((![v234] : Fin 1 → IVec S16 32) a x).toNat < S32256.size a := fun v234 k0_hw65 => k0_hw65

def k0_chk66 (v237 : IVec S16 32) : Prop :=
  (∀ a x, ((![v237] : Fin 1 → IVec S16 32) a x).toNat < S32256.size a)
theorem k0_idx66_inb : ∀ (v237 : IVec S16 32) (k0_hw66 : k0_chk66 v237), ∀ a x, ((![v237] : Fin 1 → IVec S16 32) a x).toNat < S32256.size a := fun v237 k0_hw66 => k0_hw66
def k0_off10 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_85 : BitVec 32 := 576#32
  let v238 : BitVec 32 := Scalar.muli arg15 c576_i32_85
  let c96_i32 : BitVec 32 := 96#32
  let v239 : BitVec 32 := Scalar.addi v238 c96_i32
  let v240 : Index := Scalar.indexCast v239
  ![v240.toNat]

def k0_chk67 (v247 : IVec S16 32) : Prop :=
  (∀ a x, ((![v247] : Fin 1 → IVec S16 32) a x).toNat < S16.size a)
theorem k0_idx67_inb : ∀ (v247 : IVec S16 32) (k0_hw67 : k0_chk67 v247), ∀ a x, ((![v247] : Fin 1 → IVec S16 32) a x).toNat < S16.size a := fun v247 k0_hw67 => k0_hw67

def k0_chk68 (v253 : IVec S16 32) : Prop :=
  (∀ a x, ((![v253] : Fin 1 → IVec S16 32) a x).toNat < S16.size a)
theorem k0_idx68_inb : ∀ (v253 : IVec S16 32) (k0_hw68 : k0_chk68 v253), ∀ a x, ((![v253] : Fin 1 → IVec S16 32) a x).toNat < S16.size a := fun v253 k0_hw68 => k0_hw68

def k0_chk69 (v256 : IVec S16 32) : Prop :=
  (∀ a x, ((![v256] : Fin 1 → IVec S16 32) a x).toNat < S16.size a)
theorem k0_idx69_inb : ∀ (v256 : IVec S16 32) (k0_hw69 : k0_chk69 v256), ∀ a x, ((![v256] : Fin 1 → IVec S16 32) a x).toNat < S16.size a := fun v256 k0_hw69 => k0_hw69

def k0_chk70 (v259 : IVec S16 32) : Prop :=
  (∀ a x, ((![v259] : Fin 1 → IVec S16 32) a x).toNat < S16.size a)
theorem k0_idx70_inb : ∀ (v259 : IVec S16 32) (k0_hw70 : k0_chk70 v259), ∀ a x, ((![v259] : Fin 1 → IVec S16 32) a x).toNat < S16.size a := fun v259 k0_hw70 => k0_hw70

def k0_chk71 (v250 : IVec S16 32) : Prop :=
  (∀ a x, ((![v250] : Fin 1 → IVec S16 32) a x).toNat < S32256.size a)
theorem k0_idx71_inb : ∀ (v250 : IVec S16 32) (k0_hw71 : k0_chk71 v250), ∀ a x, ((![v250] : Fin 1 → IVec S16 32) a x).toNat < S32256.size a := fun v250 k0_hw71 => k0_hw71

def k0_chk72 (v262 : IVec S16 32) : Prop :=
  (∀ a x, ((![v262] : Fin 1 → IVec S16 32) a x).toNat < S32256.size a)
theorem k0_idx72_inb : ∀ (v262 : IVec S16 32) (k0_hw72 : k0_chk72 v262), ∀ a x, ((![v262] : Fin 1 → IVec S16 32) a x).toNat < S32256.size a := fun v262 k0_hw72 => k0_hw72

def k0_chk73 (v264 : IVec S16 32) : Prop :=
  (∀ a x, ((![v264] : Fin 1 → IVec S16 32) a x).toNat < S32256.size a)
theorem k0_idx73_inb : ∀ (v264 : IVec S16 32) (k0_hw73 : k0_chk73 v264), ∀ a x, ((![v264] : Fin 1 → IVec S16 32) a x).toNat < S32256.size a := fun v264 k0_hw73 => k0_hw73

def k0_chk74 (v266 : IVec S16 32) : Prop :=
  (∀ a x, ((![v266] : Fin 1 → IVec S16 32) a x).toNat < S32256.size a)
theorem k0_idx74_inb : ∀ (v266 : IVec S16 32) (k0_hw74 : k0_chk74 v266), ∀ a x, ((![v266] : Fin 1 → IVec S16 32) a x).toNat < S32256.size a := fun v266 k0_hw74 => k0_hw74

def k0_chk75 (v268 : IVec S16 32) : Prop :=
  (∀ a x, ((![v268] : Fin 1 → IVec S16 32) a x).toNat < S32256.size a)
theorem k0_idx75_inb : ∀ (v268 : IVec S16 32) (k0_hw75 : k0_chk75 v268), ∀ a x, ((![v268] : Fin 1 → IVec S16 32) a x).toNat < S32256.size a := fun v268 k0_hw75 => k0_hw75

def k0_chk76 (v270 : IVec S16 32) : Prop :=
  (∀ a x, ((![v270] : Fin 1 → IVec S16 32) a x).toNat < S32256.size a)
theorem k0_idx76_inb : ∀ (v270 : IVec S16 32) (k0_hw76 : k0_chk76 v270), ∀ a x, ((![v270] : Fin 1 → IVec S16 32) a x).toNat < S32256.size a := fun v270 k0_hw76 => k0_hw76

def k0_chk77 (v273 : IVec S16 32) : Prop :=
  (∀ a x, ((![v273] : Fin 1 → IVec S16 32) a x).toNat < S32256.size a)
theorem k0_idx77_inb : ∀ (v273 : IVec S16 32) (k0_hw77 : k0_chk77 v273), ∀ a x, ((![v273] : Fin 1 → IVec S16 32) a x).toNat < S32256.size a := fun v273 k0_hw77 => k0_hw77
def k0_off11 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_97 : BitVec 32 := 576#32
  let v274 : BitVec 32 := Scalar.muli arg15 c576_i32_97
  let c112_i32 : BitVec 32 := 112#32
  let v275 : BitVec 32 := Scalar.addi v274 c112_i32
  let v276 : Index := Scalar.indexCast v275
  ![v276.toNat]

def k0_chk78 (v283 : IVec S16 32) : Prop :=
  (∀ a x, ((![v283] : Fin 1 → IVec S16 32) a x).toNat < S16.size a)
theorem k0_idx78_inb : ∀ (v283 : IVec S16 32) (k0_hw78 : k0_chk78 v283), ∀ a x, ((![v283] : Fin 1 → IVec S16 32) a x).toNat < S16.size a := fun v283 k0_hw78 => k0_hw78

def k0_chk79 (v289 : IVec S16 32) : Prop :=
  (∀ a x, ((![v289] : Fin 1 → IVec S16 32) a x).toNat < S16.size a)
theorem k0_idx79_inb : ∀ (v289 : IVec S16 32) (k0_hw79 : k0_chk79 v289), ∀ a x, ((![v289] : Fin 1 → IVec S16 32) a x).toNat < S16.size a := fun v289 k0_hw79 => k0_hw79

def k0_chk80 (v292 : IVec S16 32) : Prop :=
  (∀ a x, ((![v292] : Fin 1 → IVec S16 32) a x).toNat < S16.size a)
theorem k0_idx80_inb : ∀ (v292 : IVec S16 32) (k0_hw80 : k0_chk80 v292), ∀ a x, ((![v292] : Fin 1 → IVec S16 32) a x).toNat < S16.size a := fun v292 k0_hw80 => k0_hw80

def k0_chk81 (v295 : IVec S16 32) : Prop :=
  (∀ a x, ((![v295] : Fin 1 → IVec S16 32) a x).toNat < S16.size a)
theorem k0_idx81_inb : ∀ (v295 : IVec S16 32) (k0_hw81 : k0_chk81 v295), ∀ a x, ((![v295] : Fin 1 → IVec S16 32) a x).toNat < S16.size a := fun v295 k0_hw81 => k0_hw81

def k0_chk82 (v286 : IVec S16 32) : Prop :=
  (∀ a x, ((![v286] : Fin 1 → IVec S16 32) a x).toNat < S32256.size a)
theorem k0_idx82_inb : ∀ (v286 : IVec S16 32) (k0_hw82 : k0_chk82 v286), ∀ a x, ((![v286] : Fin 1 → IVec S16 32) a x).toNat < S32256.size a := fun v286 k0_hw82 => k0_hw82

def k0_chk83 (v298 : IVec S16 32) : Prop :=
  (∀ a x, ((![v298] : Fin 1 → IVec S16 32) a x).toNat < S32256.size a)
theorem k0_idx83_inb : ∀ (v298 : IVec S16 32) (k0_hw83 : k0_chk83 v298), ∀ a x, ((![v298] : Fin 1 → IVec S16 32) a x).toNat < S32256.size a := fun v298 k0_hw83 => k0_hw83

def k0_chk84 (v300 : IVec S16 32) : Prop :=
  (∀ a x, ((![v300] : Fin 1 → IVec S16 32) a x).toNat < S32256.size a)
theorem k0_idx84_inb : ∀ (v300 : IVec S16 32) (k0_hw84 : k0_chk84 v300), ∀ a x, ((![v300] : Fin 1 → IVec S16 32) a x).toNat < S32256.size a := fun v300 k0_hw84 => k0_hw84

def k0_chk85 (v302 : IVec S16 32) : Prop :=
  (∀ a x, ((![v302] : Fin 1 → IVec S16 32) a x).toNat < S32256.size a)
theorem k0_idx85_inb : ∀ (v302 : IVec S16 32) (k0_hw85 : k0_chk85 v302), ∀ a x, ((![v302] : Fin 1 → IVec S16 32) a x).toNat < S32256.size a := fun v302 k0_hw85 => k0_hw85

def k0_chk86 (v304 : IVec S16 32) : Prop :=
  (∀ a x, ((![v304] : Fin 1 → IVec S16 32) a x).toNat < S32256.size a)
theorem k0_idx86_inb : ∀ (v304 : IVec S16 32) (k0_hw86 : k0_chk86 v304), ∀ a x, ((![v304] : Fin 1 → IVec S16 32) a x).toNat < S32256.size a := fun v304 k0_hw86 => k0_hw86

def k0_chk87 (v306 : IVec S16 32) : Prop :=
  (∀ a x, ((![v306] : Fin 1 → IVec S16 32) a x).toNat < S32256.size a)
theorem k0_idx87_inb : ∀ (v306 : IVec S16 32) (k0_hw87 : k0_chk87 v306), ∀ a x, ((![v306] : Fin 1 → IVec S16 32) a x).toNat < S32256.size a := fun v306 k0_hw87 => k0_hw87

def k0_chk88 (v309 : IVec S16 32) : Prop :=
  (∀ a x, ((![v309] : Fin 1 → IVec S16 32) a x).toNat < S32256.size a)
theorem k0_idx88_inb : ∀ (v309 : IVec S16 32) (k0_hw88 : k0_chk88 v309), ∀ a x, ((![v309] : Fin 1 → IVec S16 32) a x).toNat < S32256.size a := fun v309 k0_hw88 => k0_hw88
def k0_off12 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_109 : BitVec 32 := 576#32
  let v310 : BitVec 32 := Scalar.muli arg15 c576_i32_109
  let c128_i32 : BitVec 32 := 128#32
  let v311 : BitVec 32 := Scalar.addi v310 c128_i32
  let v312 : Index := Scalar.indexCast v311
  ![v312.toNat]

def k0_chk89 (v319 : IVec S16 32) : Prop :=
  (∀ a x, ((![v319] : Fin 1 → IVec S16 32) a x).toNat < S16.size a)
theorem k0_idx89_inb : ∀ (v319 : IVec S16 32) (k0_hw89 : k0_chk89 v319), ∀ a x, ((![v319] : Fin 1 → IVec S16 32) a x).toNat < S16.size a := fun v319 k0_hw89 => k0_hw89

def k0_chk90 (v325 : IVec S16 32) : Prop :=
  (∀ a x, ((![v325] : Fin 1 → IVec S16 32) a x).toNat < S16.size a)
theorem k0_idx90_inb : ∀ (v325 : IVec S16 32) (k0_hw90 : k0_chk90 v325), ∀ a x, ((![v325] : Fin 1 → IVec S16 32) a x).toNat < S16.size a := fun v325 k0_hw90 => k0_hw90

def k0_chk91 (v328 : IVec S16 32) : Prop :=
  (∀ a x, ((![v328] : Fin 1 → IVec S16 32) a x).toNat < S16.size a)
theorem k0_idx91_inb : ∀ (v328 : IVec S16 32) (k0_hw91 : k0_chk91 v328), ∀ a x, ((![v328] : Fin 1 → IVec S16 32) a x).toNat < S16.size a := fun v328 k0_hw91 => k0_hw91

def k0_chk92 (v331 : IVec S16 32) : Prop :=
  (∀ a x, ((![v331] : Fin 1 → IVec S16 32) a x).toNat < S16.size a)
theorem k0_idx92_inb : ∀ (v331 : IVec S16 32) (k0_hw92 : k0_chk92 v331), ∀ a x, ((![v331] : Fin 1 → IVec S16 32) a x).toNat < S16.size a := fun v331 k0_hw92 => k0_hw92

def k0_chk93 (v322 : IVec S16 32) : Prop :=
  (∀ a x, ((![v322] : Fin 1 → IVec S16 32) a x).toNat < S32256.size a)
theorem k0_idx93_inb : ∀ (v322 : IVec S16 32) (k0_hw93 : k0_chk93 v322), ∀ a x, ((![v322] : Fin 1 → IVec S16 32) a x).toNat < S32256.size a := fun v322 k0_hw93 => k0_hw93

def k0_chk94 (v334 : IVec S16 32) : Prop :=
  (∀ a x, ((![v334] : Fin 1 → IVec S16 32) a x).toNat < S32256.size a)
theorem k0_idx94_inb : ∀ (v334 : IVec S16 32) (k0_hw94 : k0_chk94 v334), ∀ a x, ((![v334] : Fin 1 → IVec S16 32) a x).toNat < S32256.size a := fun v334 k0_hw94 => k0_hw94

def k0_chk95 (v336 : IVec S16 32) : Prop :=
  (∀ a x, ((![v336] : Fin 1 → IVec S16 32) a x).toNat < S32256.size a)
theorem k0_idx95_inb : ∀ (v336 : IVec S16 32) (k0_hw95 : k0_chk95 v336), ∀ a x, ((![v336] : Fin 1 → IVec S16 32) a x).toNat < S32256.size a := fun v336 k0_hw95 => k0_hw95

def k0_chk96 (v338 : IVec S16 32) : Prop :=
  (∀ a x, ((![v338] : Fin 1 → IVec S16 32) a x).toNat < S32256.size a)
theorem k0_idx96_inb : ∀ (v338 : IVec S16 32) (k0_hw96 : k0_chk96 v338), ∀ a x, ((![v338] : Fin 1 → IVec S16 32) a x).toNat < S32256.size a := fun v338 k0_hw96 => k0_hw96

def k0_chk97 (v340 : IVec S16 32) : Prop :=
  (∀ a x, ((![v340] : Fin 1 → IVec S16 32) a x).toNat < S32256.size a)
theorem k0_idx97_inb : ∀ (v340 : IVec S16 32) (k0_hw97 : k0_chk97 v340), ∀ a x, ((![v340] : Fin 1 → IVec S16 32) a x).toNat < S32256.size a := fun v340 k0_hw97 => k0_hw97

def k0_chk98 (v342 : IVec S16 32) : Prop :=
  (∀ a x, ((![v342] : Fin 1 → IVec S16 32) a x).toNat < S32256.size a)
theorem k0_idx98_inb : ∀ (v342 : IVec S16 32) (k0_hw98 : k0_chk98 v342), ∀ a x, ((![v342] : Fin 1 → IVec S16 32) a x).toNat < S32256.size a := fun v342 k0_hw98 => k0_hw98

def k0_chk99 (v345 : IVec S16 32) : Prop :=
  (∀ a x, ((![v345] : Fin 1 → IVec S16 32) a x).toNat < S32256.size a)
theorem k0_idx99_inb : ∀ (v345 : IVec S16 32) (k0_hw99 : k0_chk99 v345), ∀ a x, ((![v345] : Fin 1 → IVec S16 32) a x).toNat < S32256.size a := fun v345 k0_hw99 => k0_hw99
def k0_off13 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_121 : BitVec 32 := 576#32
  let v346 : BitVec 32 := Scalar.muli arg15 c576_i32_121
  let c144_i32 : BitVec 32 := 144#32
  let v347 : BitVec 32 := Scalar.addi v346 c144_i32
  let v348 : Index := Scalar.indexCast v347
  ![v348.toNat]

def k0_chk100 (v355 : IVec S16 32) : Prop :=
  (∀ a x, ((![v355] : Fin 1 → IVec S16 32) a x).toNat < S16.size a)
theorem k0_idx100_inb : ∀ (v355 : IVec S16 32) (k0_hw100 : k0_chk100 v355), ∀ a x, ((![v355] : Fin 1 → IVec S16 32) a x).toNat < S16.size a := fun v355 k0_hw100 => k0_hw100

def k0_chk101 (v361 : IVec S16 32) : Prop :=
  (∀ a x, ((![v361] : Fin 1 → IVec S16 32) a x).toNat < S16.size a)
theorem k0_idx101_inb : ∀ (v361 : IVec S16 32) (k0_hw101 : k0_chk101 v361), ∀ a x, ((![v361] : Fin 1 → IVec S16 32) a x).toNat < S16.size a := fun v361 k0_hw101 => k0_hw101

def k0_chk102 (v364 : IVec S16 32) : Prop :=
  (∀ a x, ((![v364] : Fin 1 → IVec S16 32) a x).toNat < S16.size a)
theorem k0_idx102_inb : ∀ (v364 : IVec S16 32) (k0_hw102 : k0_chk102 v364), ∀ a x, ((![v364] : Fin 1 → IVec S16 32) a x).toNat < S16.size a := fun v364 k0_hw102 => k0_hw102

def k0_chk103 (v367 : IVec S16 32) : Prop :=
  (∀ a x, ((![v367] : Fin 1 → IVec S16 32) a x).toNat < S16.size a)
theorem k0_idx103_inb : ∀ (v367 : IVec S16 32) (k0_hw103 : k0_chk103 v367), ∀ a x, ((![v367] : Fin 1 → IVec S16 32) a x).toNat < S16.size a := fun v367 k0_hw103 => k0_hw103

def k0_chk104 (v358 : IVec S16 32) : Prop :=
  (∀ a x, ((![v358] : Fin 1 → IVec S16 32) a x).toNat < S32256.size a)
theorem k0_idx104_inb : ∀ (v358 : IVec S16 32) (k0_hw104 : k0_chk104 v358), ∀ a x, ((![v358] : Fin 1 → IVec S16 32) a x).toNat < S32256.size a := fun v358 k0_hw104 => k0_hw104

def k0_chk105 (v370 : IVec S16 32) : Prop :=
  (∀ a x, ((![v370] : Fin 1 → IVec S16 32) a x).toNat < S32256.size a)
theorem k0_idx105_inb : ∀ (v370 : IVec S16 32) (k0_hw105 : k0_chk105 v370), ∀ a x, ((![v370] : Fin 1 → IVec S16 32) a x).toNat < S32256.size a := fun v370 k0_hw105 => k0_hw105

def k0_chk106 (v372 : IVec S16 32) : Prop :=
  (∀ a x, ((![v372] : Fin 1 → IVec S16 32) a x).toNat < S32256.size a)
theorem k0_idx106_inb : ∀ (v372 : IVec S16 32) (k0_hw106 : k0_chk106 v372), ∀ a x, ((![v372] : Fin 1 → IVec S16 32) a x).toNat < S32256.size a := fun v372 k0_hw106 => k0_hw106

def k0_chk107 (v374 : IVec S16 32) : Prop :=
  (∀ a x, ((![v374] : Fin 1 → IVec S16 32) a x).toNat < S32256.size a)
theorem k0_idx107_inb : ∀ (v374 : IVec S16 32) (k0_hw107 : k0_chk107 v374), ∀ a x, ((![v374] : Fin 1 → IVec S16 32) a x).toNat < S32256.size a := fun v374 k0_hw107 => k0_hw107

def k0_chk108 (v376 : IVec S16 32) : Prop :=
  (∀ a x, ((![v376] : Fin 1 → IVec S16 32) a x).toNat < S32256.size a)
theorem k0_idx108_inb : ∀ (v376 : IVec S16 32) (k0_hw108 : k0_chk108 v376), ∀ a x, ((![v376] : Fin 1 → IVec S16 32) a x).toNat < S32256.size a := fun v376 k0_hw108 => k0_hw108

def k0_chk109 (v378 : IVec S16 32) : Prop :=
  (∀ a x, ((![v378] : Fin 1 → IVec S16 32) a x).toNat < S32256.size a)
theorem k0_idx109_inb : ∀ (v378 : IVec S16 32) (k0_hw109 : k0_chk109 v378), ∀ a x, ((![v378] : Fin 1 → IVec S16 32) a x).toNat < S32256.size a := fun v378 k0_hw109 => k0_hw109

def k0_chk110 (v381 : IVec S16 32) : Prop :=
  (∀ a x, ((![v381] : Fin 1 → IVec S16 32) a x).toNat < S32256.size a)
theorem k0_idx110_inb : ∀ (v381 : IVec S16 32) (k0_hw110 : k0_chk110 v381), ∀ a x, ((![v381] : Fin 1 → IVec S16 32) a x).toNat < S32256.size a := fun v381 k0_hw110 => k0_hw110
def k0_off14 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_133 : BitVec 32 := 576#32
  let v382 : BitVec 32 := Scalar.muli arg15 c576_i32_133
  let c160_i32 : BitVec 32 := 160#32
  let v383 : BitVec 32 := Scalar.addi v382 c160_i32
  let v384 : Index := Scalar.indexCast v383
  ![v384.toNat]

def k0_chk111 (v391 : IVec S16 32) : Prop :=
  (∀ a x, ((![v391] : Fin 1 → IVec S16 32) a x).toNat < S16.size a)
theorem k0_idx111_inb : ∀ (v391 : IVec S16 32) (k0_hw111 : k0_chk111 v391), ∀ a x, ((![v391] : Fin 1 → IVec S16 32) a x).toNat < S16.size a := fun v391 k0_hw111 => k0_hw111

def k0_chk112 (v397 : IVec S16 32) : Prop :=
  (∀ a x, ((![v397] : Fin 1 → IVec S16 32) a x).toNat < S16.size a)
theorem k0_idx112_inb : ∀ (v397 : IVec S16 32) (k0_hw112 : k0_chk112 v397), ∀ a x, ((![v397] : Fin 1 → IVec S16 32) a x).toNat < S16.size a := fun v397 k0_hw112 => k0_hw112

def k0_chk113 (v400 : IVec S16 32) : Prop :=
  (∀ a x, ((![v400] : Fin 1 → IVec S16 32) a x).toNat < S16.size a)
theorem k0_idx113_inb : ∀ (v400 : IVec S16 32) (k0_hw113 : k0_chk113 v400), ∀ a x, ((![v400] : Fin 1 → IVec S16 32) a x).toNat < S16.size a := fun v400 k0_hw113 => k0_hw113

def k0_chk114 (v403 : IVec S16 32) : Prop :=
  (∀ a x, ((![v403] : Fin 1 → IVec S16 32) a x).toNat < S16.size a)
theorem k0_idx114_inb : ∀ (v403 : IVec S16 32) (k0_hw114 : k0_chk114 v403), ∀ a x, ((![v403] : Fin 1 → IVec S16 32) a x).toNat < S16.size a := fun v403 k0_hw114 => k0_hw114

def k0_chk115 (v394 : IVec S16 32) : Prop :=
  (∀ a x, ((![v394] : Fin 1 → IVec S16 32) a x).toNat < S32256.size a)
theorem k0_idx115_inb : ∀ (v394 : IVec S16 32) (k0_hw115 : k0_chk115 v394), ∀ a x, ((![v394] : Fin 1 → IVec S16 32) a x).toNat < S32256.size a := fun v394 k0_hw115 => k0_hw115

def k0_chk116 (v406 : IVec S16 32) : Prop :=
  (∀ a x, ((![v406] : Fin 1 → IVec S16 32) a x).toNat < S32256.size a)
theorem k0_idx116_inb : ∀ (v406 : IVec S16 32) (k0_hw116 : k0_chk116 v406), ∀ a x, ((![v406] : Fin 1 → IVec S16 32) a x).toNat < S32256.size a := fun v406 k0_hw116 => k0_hw116

def k0_chk117 (v408 : IVec S16 32) : Prop :=
  (∀ a x, ((![v408] : Fin 1 → IVec S16 32) a x).toNat < S32256.size a)
theorem k0_idx117_inb : ∀ (v408 : IVec S16 32) (k0_hw117 : k0_chk117 v408), ∀ a x, ((![v408] : Fin 1 → IVec S16 32) a x).toNat < S32256.size a := fun v408 k0_hw117 => k0_hw117

def k0_chk118 (v410 : IVec S16 32) : Prop :=
  (∀ a x, ((![v410] : Fin 1 → IVec S16 32) a x).toNat < S32256.size a)
theorem k0_idx118_inb : ∀ (v410 : IVec S16 32) (k0_hw118 : k0_chk118 v410), ∀ a x, ((![v410] : Fin 1 → IVec S16 32) a x).toNat < S32256.size a := fun v410 k0_hw118 => k0_hw118

def k0_chk119 (v412 : IVec S16 32) : Prop :=
  (∀ a x, ((![v412] : Fin 1 → IVec S16 32) a x).toNat < S32256.size a)
theorem k0_idx119_inb : ∀ (v412 : IVec S16 32) (k0_hw119 : k0_chk119 v412), ∀ a x, ((![v412] : Fin 1 → IVec S16 32) a x).toNat < S32256.size a := fun v412 k0_hw119 => k0_hw119

def k0_chk120 (v414 : IVec S16 32) : Prop :=
  (∀ a x, ((![v414] : Fin 1 → IVec S16 32) a x).toNat < S32256.size a)
theorem k0_idx120_inb : ∀ (v414 : IVec S16 32) (k0_hw120 : k0_chk120 v414), ∀ a x, ((![v414] : Fin 1 → IVec S16 32) a x).toNat < S32256.size a := fun v414 k0_hw120 => k0_hw120

def k0_chk121 (v417 : IVec S16 32) : Prop :=
  (∀ a x, ((![v417] : Fin 1 → IVec S16 32) a x).toNat < S32256.size a)
theorem k0_idx121_inb : ∀ (v417 : IVec S16 32) (k0_hw121 : k0_chk121 v417), ∀ a x, ((![v417] : Fin 1 → IVec S16 32) a x).toNat < S32256.size a := fun v417 k0_hw121 => k0_hw121
def k0_off15 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_145 : BitVec 32 := 576#32
  let v418 : BitVec 32 := Scalar.muli arg15 c576_i32_145
  let c176_i32 : BitVec 32 := 176#32
  let v419 : BitVec 32 := Scalar.addi v418 c176_i32
  let v420 : Index := Scalar.indexCast v419
  ![v420.toNat]

def k0_chk122 (v427 : IVec S16 32) : Prop :=
  (∀ a x, ((![v427] : Fin 1 → IVec S16 32) a x).toNat < S16.size a)
theorem k0_idx122_inb : ∀ (v427 : IVec S16 32) (k0_hw122 : k0_chk122 v427), ∀ a x, ((![v427] : Fin 1 → IVec S16 32) a x).toNat < S16.size a := fun v427 k0_hw122 => k0_hw122

def k0_chk123 (v433 : IVec S16 32) : Prop :=
  (∀ a x, ((![v433] : Fin 1 → IVec S16 32) a x).toNat < S16.size a)
theorem k0_idx123_inb : ∀ (v433 : IVec S16 32) (k0_hw123 : k0_chk123 v433), ∀ a x, ((![v433] : Fin 1 → IVec S16 32) a x).toNat < S16.size a := fun v433 k0_hw123 => k0_hw123

def k0_chk124 (v436 : IVec S16 32) : Prop :=
  (∀ a x, ((![v436] : Fin 1 → IVec S16 32) a x).toNat < S16.size a)
theorem k0_idx124_inb : ∀ (v436 : IVec S16 32) (k0_hw124 : k0_chk124 v436), ∀ a x, ((![v436] : Fin 1 → IVec S16 32) a x).toNat < S16.size a := fun v436 k0_hw124 => k0_hw124

def k0_chk125 (v439 : IVec S16 32) : Prop :=
  (∀ a x, ((![v439] : Fin 1 → IVec S16 32) a x).toNat < S16.size a)
theorem k0_idx125_inb : ∀ (v439 : IVec S16 32) (k0_hw125 : k0_chk125 v439), ∀ a x, ((![v439] : Fin 1 → IVec S16 32) a x).toNat < S16.size a := fun v439 k0_hw125 => k0_hw125

def k0_chk126 (v430 : IVec S16 32) : Prop :=
  (∀ a x, ((![v430] : Fin 1 → IVec S16 32) a x).toNat < S32256.size a)
theorem k0_idx126_inb : ∀ (v430 : IVec S16 32) (k0_hw126 : k0_chk126 v430), ∀ a x, ((![v430] : Fin 1 → IVec S16 32) a x).toNat < S32256.size a := fun v430 k0_hw126 => k0_hw126

def k0_chk127 (v442 : IVec S16 32) : Prop :=
  (∀ a x, ((![v442] : Fin 1 → IVec S16 32) a x).toNat < S32256.size a)
theorem k0_idx127_inb : ∀ (v442 : IVec S16 32) (k0_hw127 : k0_chk127 v442), ∀ a x, ((![v442] : Fin 1 → IVec S16 32) a x).toNat < S32256.size a := fun v442 k0_hw127 => k0_hw127

def k0_chk128 (v444 : IVec S16 32) : Prop :=
  (∀ a x, ((![v444] : Fin 1 → IVec S16 32) a x).toNat < S32256.size a)
theorem k0_idx128_inb : ∀ (v444 : IVec S16 32) (k0_hw128 : k0_chk128 v444), ∀ a x, ((![v444] : Fin 1 → IVec S16 32) a x).toNat < S32256.size a := fun v444 k0_hw128 => k0_hw128

def k0_chk129 (v446 : IVec S16 32) : Prop :=
  (∀ a x, ((![v446] : Fin 1 → IVec S16 32) a x).toNat < S32256.size a)
theorem k0_idx129_inb : ∀ (v446 : IVec S16 32) (k0_hw129 : k0_chk129 v446), ∀ a x, ((![v446] : Fin 1 → IVec S16 32) a x).toNat < S32256.size a := fun v446 k0_hw129 => k0_hw129

def k0_chk130 (v448 : IVec S16 32) : Prop :=
  (∀ a x, ((![v448] : Fin 1 → IVec S16 32) a x).toNat < S32256.size a)
theorem k0_idx130_inb : ∀ (v448 : IVec S16 32) (k0_hw130 : k0_chk130 v448), ∀ a x, ((![v448] : Fin 1 → IVec S16 32) a x).toNat < S32256.size a := fun v448 k0_hw130 => k0_hw130

def k0_chk131 (v450 : IVec S16 32) : Prop :=
  (∀ a x, ((![v450] : Fin 1 → IVec S16 32) a x).toNat < S32256.size a)
theorem k0_idx131_inb : ∀ (v450 : IVec S16 32) (k0_hw131 : k0_chk131 v450), ∀ a x, ((![v450] : Fin 1 → IVec S16 32) a x).toNat < S32256.size a := fun v450 k0_hw131 => k0_hw131

def k0_chk132 (v453 : IVec S16 32) : Prop :=
  (∀ a x, ((![v453] : Fin 1 → IVec S16 32) a x).toNat < S32256.size a)
theorem k0_idx132_inb : ∀ (v453 : IVec S16 32) (k0_hw132 : k0_chk132 v453), ∀ a x, ((![v453] : Fin 1 → IVec S16 32) a x).toNat < S32256.size a := fun v453 k0_hw132 => k0_hw132
def k0_off16 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_157 : BitVec 32 := 576#32
  let v454 : BitVec 32 := Scalar.muli arg15 c576_i32_157
  let c192_i32 : BitVec 32 := 192#32
  let v455 : BitVec 32 := Scalar.addi v454 c192_i32
  let v456 : Index := Scalar.indexCast v455
  ![v456.toNat]

def k0_chk133 (v463 : IVec S16 32) : Prop :=
  (∀ a x, ((![v463] : Fin 1 → IVec S16 32) a x).toNat < S16.size a)
theorem k0_idx133_inb : ∀ (v463 : IVec S16 32) (k0_hw133 : k0_chk133 v463), ∀ a x, ((![v463] : Fin 1 → IVec S16 32) a x).toNat < S16.size a := fun v463 k0_hw133 => k0_hw133

def k0_chk134 (v469 : IVec S16 32) : Prop :=
  (∀ a x, ((![v469] : Fin 1 → IVec S16 32) a x).toNat < S16.size a)
theorem k0_idx134_inb : ∀ (v469 : IVec S16 32) (k0_hw134 : k0_chk134 v469), ∀ a x, ((![v469] : Fin 1 → IVec S16 32) a x).toNat < S16.size a := fun v469 k0_hw134 => k0_hw134

def k0_chk135 (v472 : IVec S16 32) : Prop :=
  (∀ a x, ((![v472] : Fin 1 → IVec S16 32) a x).toNat < S16.size a)
theorem k0_idx135_inb : ∀ (v472 : IVec S16 32) (k0_hw135 : k0_chk135 v472), ∀ a x, ((![v472] : Fin 1 → IVec S16 32) a x).toNat < S16.size a := fun v472 k0_hw135 => k0_hw135

def k0_chk136 (v475 : IVec S16 32) : Prop :=
  (∀ a x, ((![v475] : Fin 1 → IVec S16 32) a x).toNat < S16.size a)
theorem k0_idx136_inb : ∀ (v475 : IVec S16 32) (k0_hw136 : k0_chk136 v475), ∀ a x, ((![v475] : Fin 1 → IVec S16 32) a x).toNat < S16.size a := fun v475 k0_hw136 => k0_hw136

def k0_chk137 (v466 : IVec S16 32) : Prop :=
  (∀ a x, ((![v466] : Fin 1 → IVec S16 32) a x).toNat < S32256.size a)
theorem k0_idx137_inb : ∀ (v466 : IVec S16 32) (k0_hw137 : k0_chk137 v466), ∀ a x, ((![v466] : Fin 1 → IVec S16 32) a x).toNat < S32256.size a := fun v466 k0_hw137 => k0_hw137

def k0_chk138 (v478 : IVec S16 32) : Prop :=
  (∀ a x, ((![v478] : Fin 1 → IVec S16 32) a x).toNat < S32256.size a)
theorem k0_idx138_inb : ∀ (v478 : IVec S16 32) (k0_hw138 : k0_chk138 v478), ∀ a x, ((![v478] : Fin 1 → IVec S16 32) a x).toNat < S32256.size a := fun v478 k0_hw138 => k0_hw138

def k0_chk139 (v480 : IVec S16 32) : Prop :=
  (∀ a x, ((![v480] : Fin 1 → IVec S16 32) a x).toNat < S32256.size a)
theorem k0_idx139_inb : ∀ (v480 : IVec S16 32) (k0_hw139 : k0_chk139 v480), ∀ a x, ((![v480] : Fin 1 → IVec S16 32) a x).toNat < S32256.size a := fun v480 k0_hw139 => k0_hw139

def k0_chk140 (v482 : IVec S16 32) : Prop :=
  (∀ a x, ((![v482] : Fin 1 → IVec S16 32) a x).toNat < S32256.size a)
theorem k0_idx140_inb : ∀ (v482 : IVec S16 32) (k0_hw140 : k0_chk140 v482), ∀ a x, ((![v482] : Fin 1 → IVec S16 32) a x).toNat < S32256.size a := fun v482 k0_hw140 => k0_hw140

def k0_chk141 (v484 : IVec S16 32) : Prop :=
  (∀ a x, ((![v484] : Fin 1 → IVec S16 32) a x).toNat < S32256.size a)
theorem k0_idx141_inb : ∀ (v484 : IVec S16 32) (k0_hw141 : k0_chk141 v484), ∀ a x, ((![v484] : Fin 1 → IVec S16 32) a x).toNat < S32256.size a := fun v484 k0_hw141 => k0_hw141

def k0_chk142 (v486 : IVec S16 32) : Prop :=
  (∀ a x, ((![v486] : Fin 1 → IVec S16 32) a x).toNat < S32256.size a)
theorem k0_idx142_inb : ∀ (v486 : IVec S16 32) (k0_hw142 : k0_chk142 v486), ∀ a x, ((![v486] : Fin 1 → IVec S16 32) a x).toNat < S32256.size a := fun v486 k0_hw142 => k0_hw142

def k0_chk143 (v489 : IVec S16 32) : Prop :=
  (∀ a x, ((![v489] : Fin 1 → IVec S16 32) a x).toNat < S32256.size a)
theorem k0_idx143_inb : ∀ (v489 : IVec S16 32) (k0_hw143 : k0_chk143 v489), ∀ a x, ((![v489] : Fin 1 → IVec S16 32) a x).toNat < S32256.size a := fun v489 k0_hw143 => k0_hw143
def k0_off17 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_169 : BitVec 32 := 576#32
  let v490 : BitVec 32 := Scalar.muli arg15 c576_i32_169
  let c208_i32 : BitVec 32 := 208#32
  let v491 : BitVec 32 := Scalar.addi v490 c208_i32
  let v492 : Index := Scalar.indexCast v491
  ![v492.toNat]

def k0_chk144 (v499 : IVec S16 32) : Prop :=
  (∀ a x, ((![v499] : Fin 1 → IVec S16 32) a x).toNat < S16.size a)
theorem k0_idx144_inb : ∀ (v499 : IVec S16 32) (k0_hw144 : k0_chk144 v499), ∀ a x, ((![v499] : Fin 1 → IVec S16 32) a x).toNat < S16.size a := fun v499 k0_hw144 => k0_hw144

def k0_chk145 (v505 : IVec S16 32) : Prop :=
  (∀ a x, ((![v505] : Fin 1 → IVec S16 32) a x).toNat < S16.size a)
theorem k0_idx145_inb : ∀ (v505 : IVec S16 32) (k0_hw145 : k0_chk145 v505), ∀ a x, ((![v505] : Fin 1 → IVec S16 32) a x).toNat < S16.size a := fun v505 k0_hw145 => k0_hw145

def k0_chk146 (v508 : IVec S16 32) : Prop :=
  (∀ a x, ((![v508] : Fin 1 → IVec S16 32) a x).toNat < S16.size a)
theorem k0_idx146_inb : ∀ (v508 : IVec S16 32) (k0_hw146 : k0_chk146 v508), ∀ a x, ((![v508] : Fin 1 → IVec S16 32) a x).toNat < S16.size a := fun v508 k0_hw146 => k0_hw146

def k0_chk147 (v511 : IVec S16 32) : Prop :=
  (∀ a x, ((![v511] : Fin 1 → IVec S16 32) a x).toNat < S16.size a)
theorem k0_idx147_inb : ∀ (v511 : IVec S16 32) (k0_hw147 : k0_chk147 v511), ∀ a x, ((![v511] : Fin 1 → IVec S16 32) a x).toNat < S16.size a := fun v511 k0_hw147 => k0_hw147

def k0_chk148 (v502 : IVec S16 32) : Prop :=
  (∀ a x, ((![v502] : Fin 1 → IVec S16 32) a x).toNat < S32256.size a)
theorem k0_idx148_inb : ∀ (v502 : IVec S16 32) (k0_hw148 : k0_chk148 v502), ∀ a x, ((![v502] : Fin 1 → IVec S16 32) a x).toNat < S32256.size a := fun v502 k0_hw148 => k0_hw148

def k0_chk149 (v514 : IVec S16 32) : Prop :=
  (∀ a x, ((![v514] : Fin 1 → IVec S16 32) a x).toNat < S32256.size a)
theorem k0_idx149_inb : ∀ (v514 : IVec S16 32) (k0_hw149 : k0_chk149 v514), ∀ a x, ((![v514] : Fin 1 → IVec S16 32) a x).toNat < S32256.size a := fun v514 k0_hw149 => k0_hw149

def k0_chk150 (v516 : IVec S16 32) : Prop :=
  (∀ a x, ((![v516] : Fin 1 → IVec S16 32) a x).toNat < S32256.size a)
theorem k0_idx150_inb : ∀ (v516 : IVec S16 32) (k0_hw150 : k0_chk150 v516), ∀ a x, ((![v516] : Fin 1 → IVec S16 32) a x).toNat < S32256.size a := fun v516 k0_hw150 => k0_hw150

def k0_chk151 (v518 : IVec S16 32) : Prop :=
  (∀ a x, ((![v518] : Fin 1 → IVec S16 32) a x).toNat < S32256.size a)
theorem k0_idx151_inb : ∀ (v518 : IVec S16 32) (k0_hw151 : k0_chk151 v518), ∀ a x, ((![v518] : Fin 1 → IVec S16 32) a x).toNat < S32256.size a := fun v518 k0_hw151 => k0_hw151

def k0_chk152 (v520 : IVec S16 32) : Prop :=
  (∀ a x, ((![v520] : Fin 1 → IVec S16 32) a x).toNat < S32256.size a)
theorem k0_idx152_inb : ∀ (v520 : IVec S16 32) (k0_hw152 : k0_chk152 v520), ∀ a x, ((![v520] : Fin 1 → IVec S16 32) a x).toNat < S32256.size a := fun v520 k0_hw152 => k0_hw152

def k0_chk153 (v522 : IVec S16 32) : Prop :=
  (∀ a x, ((![v522] : Fin 1 → IVec S16 32) a x).toNat < S32256.size a)
theorem k0_idx153_inb : ∀ (v522 : IVec S16 32) (k0_hw153 : k0_chk153 v522), ∀ a x, ((![v522] : Fin 1 → IVec S16 32) a x).toNat < S32256.size a := fun v522 k0_hw153 => k0_hw153

def k0_chk154 (v525 : IVec S16 32) : Prop :=
  (∀ a x, ((![v525] : Fin 1 → IVec S16 32) a x).toNat < S32256.size a)
theorem k0_idx154_inb : ∀ (v525 : IVec S16 32) (k0_hw154 : k0_chk154 v525), ∀ a x, ((![v525] : Fin 1 → IVec S16 32) a x).toNat < S32256.size a := fun v525 k0_hw154 => k0_hw154
def k0_off18 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_181 : BitVec 32 := 576#32
  let v526 : BitVec 32 := Scalar.muli arg15 c576_i32_181
  let c224_i32 : BitVec 32 := 224#32
  let v527 : BitVec 32 := Scalar.addi v526 c224_i32
  let v528 : Index := Scalar.indexCast v527
  ![v528.toNat]

def k0_chk155 (v535 : IVec S16 32) : Prop :=
  (∀ a x, ((![v535] : Fin 1 → IVec S16 32) a x).toNat < S16.size a)
theorem k0_idx155_inb : ∀ (v535 : IVec S16 32) (k0_hw155 : k0_chk155 v535), ∀ a x, ((![v535] : Fin 1 → IVec S16 32) a x).toNat < S16.size a := fun v535 k0_hw155 => k0_hw155

def k0_chk156 (v541 : IVec S16 32) : Prop :=
  (∀ a x, ((![v541] : Fin 1 → IVec S16 32) a x).toNat < S16.size a)
theorem k0_idx156_inb : ∀ (v541 : IVec S16 32) (k0_hw156 : k0_chk156 v541), ∀ a x, ((![v541] : Fin 1 → IVec S16 32) a x).toNat < S16.size a := fun v541 k0_hw156 => k0_hw156

def k0_chk157 (v544 : IVec S16 32) : Prop :=
  (∀ a x, ((![v544] : Fin 1 → IVec S16 32) a x).toNat < S16.size a)
theorem k0_idx157_inb : ∀ (v544 : IVec S16 32) (k0_hw157 : k0_chk157 v544), ∀ a x, ((![v544] : Fin 1 → IVec S16 32) a x).toNat < S16.size a := fun v544 k0_hw157 => k0_hw157

def k0_chk158 (v547 : IVec S16 32) : Prop :=
  (∀ a x, ((![v547] : Fin 1 → IVec S16 32) a x).toNat < S16.size a)
theorem k0_idx158_inb : ∀ (v547 : IVec S16 32) (k0_hw158 : k0_chk158 v547), ∀ a x, ((![v547] : Fin 1 → IVec S16 32) a x).toNat < S16.size a := fun v547 k0_hw158 => k0_hw158

def k0_chk159 (v538 : IVec S16 32) : Prop :=
  (∀ a x, ((![v538] : Fin 1 → IVec S16 32) a x).toNat < S32256.size a)
theorem k0_idx159_inb : ∀ (v538 : IVec S16 32) (k0_hw159 : k0_chk159 v538), ∀ a x, ((![v538] : Fin 1 → IVec S16 32) a x).toNat < S32256.size a := fun v538 k0_hw159 => k0_hw159

def k0_chk160 (v550 : IVec S16 32) : Prop :=
  (∀ a x, ((![v550] : Fin 1 → IVec S16 32) a x).toNat < S32256.size a)
theorem k0_idx160_inb : ∀ (v550 : IVec S16 32) (k0_hw160 : k0_chk160 v550), ∀ a x, ((![v550] : Fin 1 → IVec S16 32) a x).toNat < S32256.size a := fun v550 k0_hw160 => k0_hw160

def k0_chk161 (v552 : IVec S16 32) : Prop :=
  (∀ a x, ((![v552] : Fin 1 → IVec S16 32) a x).toNat < S32256.size a)
theorem k0_idx161_inb : ∀ (v552 : IVec S16 32) (k0_hw161 : k0_chk161 v552), ∀ a x, ((![v552] : Fin 1 → IVec S16 32) a x).toNat < S32256.size a := fun v552 k0_hw161 => k0_hw161

def k0_chk162 (v554 : IVec S16 32) : Prop :=
  (∀ a x, ((![v554] : Fin 1 → IVec S16 32) a x).toNat < S32256.size a)
theorem k0_idx162_inb : ∀ (v554 : IVec S16 32) (k0_hw162 : k0_chk162 v554), ∀ a x, ((![v554] : Fin 1 → IVec S16 32) a x).toNat < S32256.size a := fun v554 k0_hw162 => k0_hw162

def k0_chk163 (v556 : IVec S16 32) : Prop :=
  (∀ a x, ((![v556] : Fin 1 → IVec S16 32) a x).toNat < S32256.size a)
theorem k0_idx163_inb : ∀ (v556 : IVec S16 32) (k0_hw163 : k0_chk163 v556), ∀ a x, ((![v556] : Fin 1 → IVec S16 32) a x).toNat < S32256.size a := fun v556 k0_hw163 => k0_hw163

def k0_chk164 (v558 : IVec S16 32) : Prop :=
  (∀ a x, ((![v558] : Fin 1 → IVec S16 32) a x).toNat < S32256.size a)
theorem k0_idx164_inb : ∀ (v558 : IVec S16 32) (k0_hw164 : k0_chk164 v558), ∀ a x, ((![v558] : Fin 1 → IVec S16 32) a x).toNat < S32256.size a := fun v558 k0_hw164 => k0_hw164

def k0_chk165 (v561 : IVec S16 32) : Prop :=
  (∀ a x, ((![v561] : Fin 1 → IVec S16 32) a x).toNat < S32256.size a)
theorem k0_idx165_inb : ∀ (v561 : IVec S16 32) (k0_hw165 : k0_chk165 v561), ∀ a x, ((![v561] : Fin 1 → IVec S16 32) a x).toNat < S32256.size a := fun v561 k0_hw165 => k0_hw165
def k0_off19 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_193 : BitVec 32 := 576#32
  let v562 : BitVec 32 := Scalar.muli arg15 c576_i32_193
  let c240_i32 : BitVec 32 := 240#32
  let v563 : BitVec 32 := Scalar.addi v562 c240_i32
  let v564 : Index := Scalar.indexCast v563
  ![v564.toNat]

def k0_chk166 (v571 : IVec S16 32) : Prop :=
  (∀ a x, ((![v571] : Fin 1 → IVec S16 32) a x).toNat < S16.size a)
theorem k0_idx166_inb : ∀ (v571 : IVec S16 32) (k0_hw166 : k0_chk166 v571), ∀ a x, ((![v571] : Fin 1 → IVec S16 32) a x).toNat < S16.size a := fun v571 k0_hw166 => k0_hw166

def k0_chk167 (v577 : IVec S16 32) : Prop :=
  (∀ a x, ((![v577] : Fin 1 → IVec S16 32) a x).toNat < S16.size a)
theorem k0_idx167_inb : ∀ (v577 : IVec S16 32) (k0_hw167 : k0_chk167 v577), ∀ a x, ((![v577] : Fin 1 → IVec S16 32) a x).toNat < S16.size a := fun v577 k0_hw167 => k0_hw167

def k0_chk168 (v580 : IVec S16 32) : Prop :=
  (∀ a x, ((![v580] : Fin 1 → IVec S16 32) a x).toNat < S16.size a)
theorem k0_idx168_inb : ∀ (v580 : IVec S16 32) (k0_hw168 : k0_chk168 v580), ∀ a x, ((![v580] : Fin 1 → IVec S16 32) a x).toNat < S16.size a := fun v580 k0_hw168 => k0_hw168

def k0_chk169 (v583 : IVec S16 32) : Prop :=
  (∀ a x, ((![v583] : Fin 1 → IVec S16 32) a x).toNat < S16.size a)
theorem k0_idx169_inb : ∀ (v583 : IVec S16 32) (k0_hw169 : k0_chk169 v583), ∀ a x, ((![v583] : Fin 1 → IVec S16 32) a x).toNat < S16.size a := fun v583 k0_hw169 => k0_hw169

def k0_chk170 (v574 : IVec S16 32) : Prop :=
  (∀ a x, ((![v574] : Fin 1 → IVec S16 32) a x).toNat < S32256.size a)
theorem k0_idx170_inb : ∀ (v574 : IVec S16 32) (k0_hw170 : k0_chk170 v574), ∀ a x, ((![v574] : Fin 1 → IVec S16 32) a x).toNat < S32256.size a := fun v574 k0_hw170 => k0_hw170

def k0_chk171 (v586 : IVec S16 32) : Prop :=
  (∀ a x, ((![v586] : Fin 1 → IVec S16 32) a x).toNat < S32256.size a)
theorem k0_idx171_inb : ∀ (v586 : IVec S16 32) (k0_hw171 : k0_chk171 v586), ∀ a x, ((![v586] : Fin 1 → IVec S16 32) a x).toNat < S32256.size a := fun v586 k0_hw171 => k0_hw171

def k0_chk172 (v588 : IVec S16 32) : Prop :=
  (∀ a x, ((![v588] : Fin 1 → IVec S16 32) a x).toNat < S32256.size a)
theorem k0_idx172_inb : ∀ (v588 : IVec S16 32) (k0_hw172 : k0_chk172 v588), ∀ a x, ((![v588] : Fin 1 → IVec S16 32) a x).toNat < S32256.size a := fun v588 k0_hw172 => k0_hw172

def k0_chk173 (v590 : IVec S16 32) : Prop :=
  (∀ a x, ((![v590] : Fin 1 → IVec S16 32) a x).toNat < S32256.size a)
theorem k0_idx173_inb : ∀ (v590 : IVec S16 32) (k0_hw173 : k0_chk173 v590), ∀ a x, ((![v590] : Fin 1 → IVec S16 32) a x).toNat < S32256.size a := fun v590 k0_hw173 => k0_hw173

def k0_chk174 (v592 : IVec S16 32) : Prop :=
  (∀ a x, ((![v592] : Fin 1 → IVec S16 32) a x).toNat < S32256.size a)
theorem k0_idx174_inb : ∀ (v592 : IVec S16 32) (k0_hw174 : k0_chk174 v592), ∀ a x, ((![v592] : Fin 1 → IVec S16 32) a x).toNat < S32256.size a := fun v592 k0_hw174 => k0_hw174

def k0_chk175 (v594 : IVec S16 32) : Prop :=
  (∀ a x, ((![v594] : Fin 1 → IVec S16 32) a x).toNat < S32256.size a)
theorem k0_idx175_inb : ∀ (v594 : IVec S16 32) (k0_hw175 : k0_chk175 v594), ∀ a x, ((![v594] : Fin 1 → IVec S16 32) a x).toNat < S32256.size a := fun v594 k0_hw175 => k0_hw175

def k0_chk176 (v597 : IVec S16 32) : Prop :=
  (∀ a x, ((![v597] : Fin 1 → IVec S16 32) a x).toNat < S32256.size a)
theorem k0_idx176_inb : ∀ (v597 : IVec S16 32) (k0_hw176 : k0_chk176 v597), ∀ a x, ((![v597] : Fin 1 → IVec S16 32) a x).toNat < S32256.size a := fun v597 k0_hw176 => k0_hw176
def k0_off20 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_205 : BitVec 32 := 576#32
  let v598 : BitVec 32 := Scalar.muli arg15 c576_i32_205
  let c256_i32_206 : BitVec 32 := 256#32
  let v599 : BitVec 32 := Scalar.addi v598 c256_i32_206
  let v600 : Index := Scalar.indexCast v599
  ![v600.toNat]

def k0_chk177 (v607 : IVec S16 32) : Prop :=
  (∀ a x, ((![v607] : Fin 1 → IVec S16 32) a x).toNat < S16.size a)
theorem k0_idx177_inb : ∀ (v607 : IVec S16 32) (k0_hw177 : k0_chk177 v607), ∀ a x, ((![v607] : Fin 1 → IVec S16 32) a x).toNat < S16.size a := fun v607 k0_hw177 => k0_hw177

def k0_chk178 (v613 : IVec S16 32) : Prop :=
  (∀ a x, ((![v613] : Fin 1 → IVec S16 32) a x).toNat < S16.size a)
theorem k0_idx178_inb : ∀ (v613 : IVec S16 32) (k0_hw178 : k0_chk178 v613), ∀ a x, ((![v613] : Fin 1 → IVec S16 32) a x).toNat < S16.size a := fun v613 k0_hw178 => k0_hw178

def k0_chk179 (v616 : IVec S16 32) : Prop :=
  (∀ a x, ((![v616] : Fin 1 → IVec S16 32) a x).toNat < S16.size a)
theorem k0_idx179_inb : ∀ (v616 : IVec S16 32) (k0_hw179 : k0_chk179 v616), ∀ a x, ((![v616] : Fin 1 → IVec S16 32) a x).toNat < S16.size a := fun v616 k0_hw179 => k0_hw179

def k0_chk180 (v619 : IVec S16 32) : Prop :=
  (∀ a x, ((![v619] : Fin 1 → IVec S16 32) a x).toNat < S16.size a)
theorem k0_idx180_inb : ∀ (v619 : IVec S16 32) (k0_hw180 : k0_chk180 v619), ∀ a x, ((![v619] : Fin 1 → IVec S16 32) a x).toNat < S16.size a := fun v619 k0_hw180 => k0_hw180

def k0_chk181 (v610 : IVec S16 32) : Prop :=
  (∀ a x, ((![v610] : Fin 1 → IVec S16 32) a x).toNat < S32256.size a)
theorem k0_idx181_inb : ∀ (v610 : IVec S16 32) (k0_hw181 : k0_chk181 v610), ∀ a x, ((![v610] : Fin 1 → IVec S16 32) a x).toNat < S32256.size a := fun v610 k0_hw181 => k0_hw181

def k0_chk182 (v622 : IVec S16 32) : Prop :=
  (∀ a x, ((![v622] : Fin 1 → IVec S16 32) a x).toNat < S32256.size a)
theorem k0_idx182_inb : ∀ (v622 : IVec S16 32) (k0_hw182 : k0_chk182 v622), ∀ a x, ((![v622] : Fin 1 → IVec S16 32) a x).toNat < S32256.size a := fun v622 k0_hw182 => k0_hw182

def k0_chk183 (v624 : IVec S16 32) : Prop :=
  (∀ a x, ((![v624] : Fin 1 → IVec S16 32) a x).toNat < S32256.size a)
theorem k0_idx183_inb : ∀ (v624 : IVec S16 32) (k0_hw183 : k0_chk183 v624), ∀ a x, ((![v624] : Fin 1 → IVec S16 32) a x).toNat < S32256.size a := fun v624 k0_hw183 => k0_hw183

def k0_chk184 (v626 : IVec S16 32) : Prop :=
  (∀ a x, ((![v626] : Fin 1 → IVec S16 32) a x).toNat < S32256.size a)
theorem k0_idx184_inb : ∀ (v626 : IVec S16 32) (k0_hw184 : k0_chk184 v626), ∀ a x, ((![v626] : Fin 1 → IVec S16 32) a x).toNat < S32256.size a := fun v626 k0_hw184 => k0_hw184

def k0_chk185 (v628 : IVec S16 32) : Prop :=
  (∀ a x, ((![v628] : Fin 1 → IVec S16 32) a x).toNat < S32256.size a)
theorem k0_idx185_inb : ∀ (v628 : IVec S16 32) (k0_hw185 : k0_chk185 v628), ∀ a x, ((![v628] : Fin 1 → IVec S16 32) a x).toNat < S32256.size a := fun v628 k0_hw185 => k0_hw185

def k0_chk186 (v630 : IVec S16 32) : Prop :=
  (∀ a x, ((![v630] : Fin 1 → IVec S16 32) a x).toNat < S32256.size a)
theorem k0_idx186_inb : ∀ (v630 : IVec S16 32) (k0_hw186 : k0_chk186 v630), ∀ a x, ((![v630] : Fin 1 → IVec S16 32) a x).toNat < S32256.size a := fun v630 k0_hw186 => k0_hw186

def k0_chk187 (v633 : IVec S16 32) : Prop :=
  (∀ a x, ((![v633] : Fin 1 → IVec S16 32) a x).toNat < S32256.size a)
theorem k0_idx187_inb : ∀ (v633 : IVec S16 32) (k0_hw187 : k0_chk187 v633), ∀ a x, ((![v633] : Fin 1 → IVec S16 32) a x).toNat < S32256.size a := fun v633 k0_hw187 => k0_hw187
def k0_off21 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_218 : BitVec 32 := 576#32
  let v634 : BitVec 32 := Scalar.muli arg15 c576_i32_218
  let c272_i32 : BitVec 32 := 272#32
  let v635 : BitVec 32 := Scalar.addi v634 c272_i32
  let v636 : Index := Scalar.indexCast v635
  ![v636.toNat]

def k0_chk188 (v643 : IVec S16 32) : Prop :=
  (∀ a x, ((![v643] : Fin 1 → IVec S16 32) a x).toNat < S16.size a)
theorem k0_idx188_inb : ∀ (v643 : IVec S16 32) (k0_hw188 : k0_chk188 v643), ∀ a x, ((![v643] : Fin 1 → IVec S16 32) a x).toNat < S16.size a := fun v643 k0_hw188 => k0_hw188

def k0_chk189 (v649 : IVec S16 32) : Prop :=
  (∀ a x, ((![v649] : Fin 1 → IVec S16 32) a x).toNat < S16.size a)
theorem k0_idx189_inb : ∀ (v649 : IVec S16 32) (k0_hw189 : k0_chk189 v649), ∀ a x, ((![v649] : Fin 1 → IVec S16 32) a x).toNat < S16.size a := fun v649 k0_hw189 => k0_hw189

def k0_chk190 (v652 : IVec S16 32) : Prop :=
  (∀ a x, ((![v652] : Fin 1 → IVec S16 32) a x).toNat < S16.size a)
theorem k0_idx190_inb : ∀ (v652 : IVec S16 32) (k0_hw190 : k0_chk190 v652), ∀ a x, ((![v652] : Fin 1 → IVec S16 32) a x).toNat < S16.size a := fun v652 k0_hw190 => k0_hw190

def k0_chk191 (v655 : IVec S16 32) : Prop :=
  (∀ a x, ((![v655] : Fin 1 → IVec S16 32) a x).toNat < S16.size a)
theorem k0_idx191_inb : ∀ (v655 : IVec S16 32) (k0_hw191 : k0_chk191 v655), ∀ a x, ((![v655] : Fin 1 → IVec S16 32) a x).toNat < S16.size a := fun v655 k0_hw191 => k0_hw191

def k0_chk192 (v646 : IVec S16 32) : Prop :=
  (∀ a x, ((![v646] : Fin 1 → IVec S16 32) a x).toNat < S32256.size a)
theorem k0_idx192_inb : ∀ (v646 : IVec S16 32) (k0_hw192 : k0_chk192 v646), ∀ a x, ((![v646] : Fin 1 → IVec S16 32) a x).toNat < S32256.size a := fun v646 k0_hw192 => k0_hw192

def k0_chk193 (v658 : IVec S16 32) : Prop :=
  (∀ a x, ((![v658] : Fin 1 → IVec S16 32) a x).toNat < S32256.size a)
theorem k0_idx193_inb : ∀ (v658 : IVec S16 32) (k0_hw193 : k0_chk193 v658), ∀ a x, ((![v658] : Fin 1 → IVec S16 32) a x).toNat < S32256.size a := fun v658 k0_hw193 => k0_hw193

def k0_chk194 (v660 : IVec S16 32) : Prop :=
  (∀ a x, ((![v660] : Fin 1 → IVec S16 32) a x).toNat < S32256.size a)
theorem k0_idx194_inb : ∀ (v660 : IVec S16 32) (k0_hw194 : k0_chk194 v660), ∀ a x, ((![v660] : Fin 1 → IVec S16 32) a x).toNat < S32256.size a := fun v660 k0_hw194 => k0_hw194

def k0_chk195 (v662 : IVec S16 32) : Prop :=
  (∀ a x, ((![v662] : Fin 1 → IVec S16 32) a x).toNat < S32256.size a)
theorem k0_idx195_inb : ∀ (v662 : IVec S16 32) (k0_hw195 : k0_chk195 v662), ∀ a x, ((![v662] : Fin 1 → IVec S16 32) a x).toNat < S32256.size a := fun v662 k0_hw195 => k0_hw195

def k0_chk196 (v664 : IVec S16 32) : Prop :=
  (∀ a x, ((![v664] : Fin 1 → IVec S16 32) a x).toNat < S32256.size a)
theorem k0_idx196_inb : ∀ (v664 : IVec S16 32) (k0_hw196 : k0_chk196 v664), ∀ a x, ((![v664] : Fin 1 → IVec S16 32) a x).toNat < S32256.size a := fun v664 k0_hw196 => k0_hw196

def k0_chk197 (v666 : IVec S16 32) : Prop :=
  (∀ a x, ((![v666] : Fin 1 → IVec S16 32) a x).toNat < S32256.size a)
theorem k0_idx197_inb : ∀ (v666 : IVec S16 32) (k0_hw197 : k0_chk197 v666), ∀ a x, ((![v666] : Fin 1 → IVec S16 32) a x).toNat < S32256.size a := fun v666 k0_hw197 => k0_hw197

def k0_chk198 (v669 : IVec S16 32) : Prop :=
  (∀ a x, ((![v669] : Fin 1 → IVec S16 32) a x).toNat < S32256.size a)
theorem k0_idx198_inb : ∀ (v669 : IVec S16 32) (k0_hw198 : k0_chk198 v669), ∀ a x, ((![v669] : Fin 1 → IVec S16 32) a x).toNat < S32256.size a := fun v669 k0_hw198 => k0_hw198
def k0_off22 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_230 : BitVec 32 := 576#32
  let v670 : BitVec 32 := Scalar.muli arg15 c576_i32_230
  let c288_i32 : BitVec 32 := 288#32
  let v671 : BitVec 32 := Scalar.addi v670 c288_i32
  let v672 : Index := Scalar.indexCast v671
  ![v672.toNat]

def k0_chk199 (v679 : IVec S16 32) : Prop :=
  (∀ a x, ((![v679] : Fin 1 → IVec S16 32) a x).toNat < S16.size a)
theorem k0_idx199_inb : ∀ (v679 : IVec S16 32) (k0_hw199 : k0_chk199 v679), ∀ a x, ((![v679] : Fin 1 → IVec S16 32) a x).toNat < S16.size a := fun v679 k0_hw199 => k0_hw199

def k0_chk200 (v685 : IVec S16 32) : Prop :=
  (∀ a x, ((![v685] : Fin 1 → IVec S16 32) a x).toNat < S16.size a)
theorem k0_idx200_inb : ∀ (v685 : IVec S16 32) (k0_hw200 : k0_chk200 v685), ∀ a x, ((![v685] : Fin 1 → IVec S16 32) a x).toNat < S16.size a := fun v685 k0_hw200 => k0_hw200

def k0_chk201 (v688 : IVec S16 32) : Prop :=
  (∀ a x, ((![v688] : Fin 1 → IVec S16 32) a x).toNat < S16.size a)
theorem k0_idx201_inb : ∀ (v688 : IVec S16 32) (k0_hw201 : k0_chk201 v688), ∀ a x, ((![v688] : Fin 1 → IVec S16 32) a x).toNat < S16.size a := fun v688 k0_hw201 => k0_hw201

def k0_chk202 (v691 : IVec S16 32) : Prop :=
  (∀ a x, ((![v691] : Fin 1 → IVec S16 32) a x).toNat < S16.size a)
theorem k0_idx202_inb : ∀ (v691 : IVec S16 32) (k0_hw202 : k0_chk202 v691), ∀ a x, ((![v691] : Fin 1 → IVec S16 32) a x).toNat < S16.size a := fun v691 k0_hw202 => k0_hw202

def k0_chk203 (v682 : IVec S16 32) : Prop :=
  (∀ a x, ((![v682] : Fin 1 → IVec S16 32) a x).toNat < S32256.size a)
theorem k0_idx203_inb : ∀ (v682 : IVec S16 32) (k0_hw203 : k0_chk203 v682), ∀ a x, ((![v682] : Fin 1 → IVec S16 32) a x).toNat < S32256.size a := fun v682 k0_hw203 => k0_hw203

def k0_chk204 (v694 : IVec S16 32) : Prop :=
  (∀ a x, ((![v694] : Fin 1 → IVec S16 32) a x).toNat < S32256.size a)
theorem k0_idx204_inb : ∀ (v694 : IVec S16 32) (k0_hw204 : k0_chk204 v694), ∀ a x, ((![v694] : Fin 1 → IVec S16 32) a x).toNat < S32256.size a := fun v694 k0_hw204 => k0_hw204

def k0_chk205 (v696 : IVec S16 32) : Prop :=
  (∀ a x, ((![v696] : Fin 1 → IVec S16 32) a x).toNat < S32256.size a)
theorem k0_idx205_inb : ∀ (v696 : IVec S16 32) (k0_hw205 : k0_chk205 v696), ∀ a x, ((![v696] : Fin 1 → IVec S16 32) a x).toNat < S32256.size a := fun v696 k0_hw205 => k0_hw205

def k0_chk206 (v698 : IVec S16 32) : Prop :=
  (∀ a x, ((![v698] : Fin 1 → IVec S16 32) a x).toNat < S32256.size a)
theorem k0_idx206_inb : ∀ (v698 : IVec S16 32) (k0_hw206 : k0_chk206 v698), ∀ a x, ((![v698] : Fin 1 → IVec S16 32) a x).toNat < S32256.size a := fun v698 k0_hw206 => k0_hw206

def k0_chk207 (v700 : IVec S16 32) : Prop :=
  (∀ a x, ((![v700] : Fin 1 → IVec S16 32) a x).toNat < S32256.size a)
theorem k0_idx207_inb : ∀ (v700 : IVec S16 32) (k0_hw207 : k0_chk207 v700), ∀ a x, ((![v700] : Fin 1 → IVec S16 32) a x).toNat < S32256.size a := fun v700 k0_hw207 => k0_hw207

def k0_chk208 (v702 : IVec S16 32) : Prop :=
  (∀ a x, ((![v702] : Fin 1 → IVec S16 32) a x).toNat < S32256.size a)
theorem k0_idx208_inb : ∀ (v702 : IVec S16 32) (k0_hw208 : k0_chk208 v702), ∀ a x, ((![v702] : Fin 1 → IVec S16 32) a x).toNat < S32256.size a := fun v702 k0_hw208 => k0_hw208

def k0_chk209 (v705 : IVec S16 32) : Prop :=
  (∀ a x, ((![v705] : Fin 1 → IVec S16 32) a x).toNat < S32256.size a)
theorem k0_idx209_inb : ∀ (v705 : IVec S16 32) (k0_hw209 : k0_chk209 v705), ∀ a x, ((![v705] : Fin 1 → IVec S16 32) a x).toNat < S32256.size a := fun v705 k0_hw209 => k0_hw209
def k0_off23 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_242 : BitVec 32 := 576#32
  let v706 : BitVec 32 := Scalar.muli arg15 c576_i32_242
  let c304_i32 : BitVec 32 := 304#32
  let v707 : BitVec 32 := Scalar.addi v706 c304_i32
  let v708 : Index := Scalar.indexCast v707
  ![v708.toNat]

def k0_chk210 (v715 : IVec S16 32) : Prop :=
  (∀ a x, ((![v715] : Fin 1 → IVec S16 32) a x).toNat < S16.size a)
theorem k0_idx210_inb : ∀ (v715 : IVec S16 32) (k0_hw210 : k0_chk210 v715), ∀ a x, ((![v715] : Fin 1 → IVec S16 32) a x).toNat < S16.size a := fun v715 k0_hw210 => k0_hw210

def k0_chk211 (v721 : IVec S16 32) : Prop :=
  (∀ a x, ((![v721] : Fin 1 → IVec S16 32) a x).toNat < S16.size a)
theorem k0_idx211_inb : ∀ (v721 : IVec S16 32) (k0_hw211 : k0_chk211 v721), ∀ a x, ((![v721] : Fin 1 → IVec S16 32) a x).toNat < S16.size a := fun v721 k0_hw211 => k0_hw211

def k0_chk212 (v724 : IVec S16 32) : Prop :=
  (∀ a x, ((![v724] : Fin 1 → IVec S16 32) a x).toNat < S16.size a)
theorem k0_idx212_inb : ∀ (v724 : IVec S16 32) (k0_hw212 : k0_chk212 v724), ∀ a x, ((![v724] : Fin 1 → IVec S16 32) a x).toNat < S16.size a := fun v724 k0_hw212 => k0_hw212

def k0_chk213 (v727 : IVec S16 32) : Prop :=
  (∀ a x, ((![v727] : Fin 1 → IVec S16 32) a x).toNat < S16.size a)
theorem k0_idx213_inb : ∀ (v727 : IVec S16 32) (k0_hw213 : k0_chk213 v727), ∀ a x, ((![v727] : Fin 1 → IVec S16 32) a x).toNat < S16.size a := fun v727 k0_hw213 => k0_hw213

def k0_chk214 (v718 : IVec S16 32) : Prop :=
  (∀ a x, ((![v718] : Fin 1 → IVec S16 32) a x).toNat < S32256.size a)
theorem k0_idx214_inb : ∀ (v718 : IVec S16 32) (k0_hw214 : k0_chk214 v718), ∀ a x, ((![v718] : Fin 1 → IVec S16 32) a x).toNat < S32256.size a := fun v718 k0_hw214 => k0_hw214

def k0_chk215 (v730 : IVec S16 32) : Prop :=
  (∀ a x, ((![v730] : Fin 1 → IVec S16 32) a x).toNat < S32256.size a)
theorem k0_idx215_inb : ∀ (v730 : IVec S16 32) (k0_hw215 : k0_chk215 v730), ∀ a x, ((![v730] : Fin 1 → IVec S16 32) a x).toNat < S32256.size a := fun v730 k0_hw215 => k0_hw215

def k0_chk216 (v732 : IVec S16 32) : Prop :=
  (∀ a x, ((![v732] : Fin 1 → IVec S16 32) a x).toNat < S32256.size a)
theorem k0_idx216_inb : ∀ (v732 : IVec S16 32) (k0_hw216 : k0_chk216 v732), ∀ a x, ((![v732] : Fin 1 → IVec S16 32) a x).toNat < S32256.size a := fun v732 k0_hw216 => k0_hw216

def k0_chk217 (v734 : IVec S16 32) : Prop :=
  (∀ a x, ((![v734] : Fin 1 → IVec S16 32) a x).toNat < S32256.size a)
theorem k0_idx217_inb : ∀ (v734 : IVec S16 32) (k0_hw217 : k0_chk217 v734), ∀ a x, ((![v734] : Fin 1 → IVec S16 32) a x).toNat < S32256.size a := fun v734 k0_hw217 => k0_hw217

def k0_chk218 (v736 : IVec S16 32) : Prop :=
  (∀ a x, ((![v736] : Fin 1 → IVec S16 32) a x).toNat < S32256.size a)
theorem k0_idx218_inb : ∀ (v736 : IVec S16 32) (k0_hw218 : k0_chk218 v736), ∀ a x, ((![v736] : Fin 1 → IVec S16 32) a x).toNat < S32256.size a := fun v736 k0_hw218 => k0_hw218

def k0_chk219 (v738 : IVec S16 32) : Prop :=
  (∀ a x, ((![v738] : Fin 1 → IVec S16 32) a x).toNat < S32256.size a)
theorem k0_idx219_inb : ∀ (v738 : IVec S16 32) (k0_hw219 : k0_chk219 v738), ∀ a x, ((![v738] : Fin 1 → IVec S16 32) a x).toNat < S32256.size a := fun v738 k0_hw219 => k0_hw219

def k0_chk220 (v741 : IVec S16 32) : Prop :=
  (∀ a x, ((![v741] : Fin 1 → IVec S16 32) a x).toNat < S32256.size a)
theorem k0_idx220_inb : ∀ (v741 : IVec S16 32) (k0_hw220 : k0_chk220 v741), ∀ a x, ((![v741] : Fin 1 → IVec S16 32) a x).toNat < S32256.size a := fun v741 k0_hw220 => k0_hw220
def k0_off24 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_254 : BitVec 32 := 576#32
  let v742 : BitVec 32 := Scalar.muli arg15 c576_i32_254
  let c320_i32 : BitVec 32 := 320#32
  let v743 : BitVec 32 := Scalar.addi v742 c320_i32
  let v744 : Index := Scalar.indexCast v743
  ![v744.toNat]

def k0_chk221 (v751 : IVec S16 32) : Prop :=
  (∀ a x, ((![v751] : Fin 1 → IVec S16 32) a x).toNat < S16.size a)
theorem k0_idx221_inb : ∀ (v751 : IVec S16 32) (k0_hw221 : k0_chk221 v751), ∀ a x, ((![v751] : Fin 1 → IVec S16 32) a x).toNat < S16.size a := fun v751 k0_hw221 => k0_hw221

def k0_chk222 (v757 : IVec S16 32) : Prop :=
  (∀ a x, ((![v757] : Fin 1 → IVec S16 32) a x).toNat < S16.size a)
theorem k0_idx222_inb : ∀ (v757 : IVec S16 32) (k0_hw222 : k0_chk222 v757), ∀ a x, ((![v757] : Fin 1 → IVec S16 32) a x).toNat < S16.size a := fun v757 k0_hw222 => k0_hw222

def k0_chk223 (v760 : IVec S16 32) : Prop :=
  (∀ a x, ((![v760] : Fin 1 → IVec S16 32) a x).toNat < S16.size a)
theorem k0_idx223_inb : ∀ (v760 : IVec S16 32) (k0_hw223 : k0_chk223 v760), ∀ a x, ((![v760] : Fin 1 → IVec S16 32) a x).toNat < S16.size a := fun v760 k0_hw223 => k0_hw223

def k0_chk224 (v763 : IVec S16 32) : Prop :=
  (∀ a x, ((![v763] : Fin 1 → IVec S16 32) a x).toNat < S16.size a)
theorem k0_idx224_inb : ∀ (v763 : IVec S16 32) (k0_hw224 : k0_chk224 v763), ∀ a x, ((![v763] : Fin 1 → IVec S16 32) a x).toNat < S16.size a := fun v763 k0_hw224 => k0_hw224

def k0_chk225 (v754 : IVec S16 32) : Prop :=
  (∀ a x, ((![v754] : Fin 1 → IVec S16 32) a x).toNat < S32256.size a)
theorem k0_idx225_inb : ∀ (v754 : IVec S16 32) (k0_hw225 : k0_chk225 v754), ∀ a x, ((![v754] : Fin 1 → IVec S16 32) a x).toNat < S32256.size a := fun v754 k0_hw225 => k0_hw225

def k0_chk226 (v766 : IVec S16 32) : Prop :=
  (∀ a x, ((![v766] : Fin 1 → IVec S16 32) a x).toNat < S32256.size a)
theorem k0_idx226_inb : ∀ (v766 : IVec S16 32) (k0_hw226 : k0_chk226 v766), ∀ a x, ((![v766] : Fin 1 → IVec S16 32) a x).toNat < S32256.size a := fun v766 k0_hw226 => k0_hw226

def k0_chk227 (v768 : IVec S16 32) : Prop :=
  (∀ a x, ((![v768] : Fin 1 → IVec S16 32) a x).toNat < S32256.size a)
theorem k0_idx227_inb : ∀ (v768 : IVec S16 32) (k0_hw227 : k0_chk227 v768), ∀ a x, ((![v768] : Fin 1 → IVec S16 32) a x).toNat < S32256.size a := fun v768 k0_hw227 => k0_hw227

def k0_chk228 (v770 : IVec S16 32) : Prop :=
  (∀ a x, ((![v770] : Fin 1 → IVec S16 32) a x).toNat < S32256.size a)
theorem k0_idx228_inb : ∀ (v770 : IVec S16 32) (k0_hw228 : k0_chk228 v770), ∀ a x, ((![v770] : Fin 1 → IVec S16 32) a x).toNat < S32256.size a := fun v770 k0_hw228 => k0_hw228

def k0_chk229 (v772 : IVec S16 32) : Prop :=
  (∀ a x, ((![v772] : Fin 1 → IVec S16 32) a x).toNat < S32256.size a)
theorem k0_idx229_inb : ∀ (v772 : IVec S16 32) (k0_hw229 : k0_chk229 v772), ∀ a x, ((![v772] : Fin 1 → IVec S16 32) a x).toNat < S32256.size a := fun v772 k0_hw229 => k0_hw229

def k0_chk230 (v774 : IVec S16 32) : Prop :=
  (∀ a x, ((![v774] : Fin 1 → IVec S16 32) a x).toNat < S32256.size a)
theorem k0_idx230_inb : ∀ (v774 : IVec S16 32) (k0_hw230 : k0_chk230 v774), ∀ a x, ((![v774] : Fin 1 → IVec S16 32) a x).toNat < S32256.size a := fun v774 k0_hw230 => k0_hw230

def k0_chk231 (v777 : IVec S16 32) : Prop :=
  (∀ a x, ((![v777] : Fin 1 → IVec S16 32) a x).toNat < S32256.size a)
theorem k0_idx231_inb : ∀ (v777 : IVec S16 32) (k0_hw231 : k0_chk231 v777), ∀ a x, ((![v777] : Fin 1 → IVec S16 32) a x).toNat < S32256.size a := fun v777 k0_hw231 => k0_hw231
def k0_off25 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_266 : BitVec 32 := 576#32
  let v778 : BitVec 32 := Scalar.muli arg15 c576_i32_266
  let c336_i32 : BitVec 32 := 336#32
  let v779 : BitVec 32 := Scalar.addi v778 c336_i32
  let v780 : Index := Scalar.indexCast v779
  ![v780.toNat]

def k0_chk232 (v787 : IVec S16 32) : Prop :=
  (∀ a x, ((![v787] : Fin 1 → IVec S16 32) a x).toNat < S16.size a)
theorem k0_idx232_inb : ∀ (v787 : IVec S16 32) (k0_hw232 : k0_chk232 v787), ∀ a x, ((![v787] : Fin 1 → IVec S16 32) a x).toNat < S16.size a := fun v787 k0_hw232 => k0_hw232

def k0_chk233 (v793 : IVec S16 32) : Prop :=
  (∀ a x, ((![v793] : Fin 1 → IVec S16 32) a x).toNat < S16.size a)
theorem k0_idx233_inb : ∀ (v793 : IVec S16 32) (k0_hw233 : k0_chk233 v793), ∀ a x, ((![v793] : Fin 1 → IVec S16 32) a x).toNat < S16.size a := fun v793 k0_hw233 => k0_hw233

def k0_chk234 (v796 : IVec S16 32) : Prop :=
  (∀ a x, ((![v796] : Fin 1 → IVec S16 32) a x).toNat < S16.size a)
theorem k0_idx234_inb : ∀ (v796 : IVec S16 32) (k0_hw234 : k0_chk234 v796), ∀ a x, ((![v796] : Fin 1 → IVec S16 32) a x).toNat < S16.size a := fun v796 k0_hw234 => k0_hw234

def k0_chk235 (v799 : IVec S16 32) : Prop :=
  (∀ a x, ((![v799] : Fin 1 → IVec S16 32) a x).toNat < S16.size a)
theorem k0_idx235_inb : ∀ (v799 : IVec S16 32) (k0_hw235 : k0_chk235 v799), ∀ a x, ((![v799] : Fin 1 → IVec S16 32) a x).toNat < S16.size a := fun v799 k0_hw235 => k0_hw235

def k0_chk236 (v790 : IVec S16 32) : Prop :=
  (∀ a x, ((![v790] : Fin 1 → IVec S16 32) a x).toNat < S32256.size a)
theorem k0_idx236_inb : ∀ (v790 : IVec S16 32) (k0_hw236 : k0_chk236 v790), ∀ a x, ((![v790] : Fin 1 → IVec S16 32) a x).toNat < S32256.size a := fun v790 k0_hw236 => k0_hw236

def k0_chk237 (v802 : IVec S16 32) : Prop :=
  (∀ a x, ((![v802] : Fin 1 → IVec S16 32) a x).toNat < S32256.size a)
theorem k0_idx237_inb : ∀ (v802 : IVec S16 32) (k0_hw237 : k0_chk237 v802), ∀ a x, ((![v802] : Fin 1 → IVec S16 32) a x).toNat < S32256.size a := fun v802 k0_hw237 => k0_hw237

def k0_chk238 (v804 : IVec S16 32) : Prop :=
  (∀ a x, ((![v804] : Fin 1 → IVec S16 32) a x).toNat < S32256.size a)
theorem k0_idx238_inb : ∀ (v804 : IVec S16 32) (k0_hw238 : k0_chk238 v804), ∀ a x, ((![v804] : Fin 1 → IVec S16 32) a x).toNat < S32256.size a := fun v804 k0_hw238 => k0_hw238

def k0_chk239 (v806 : IVec S16 32) : Prop :=
  (∀ a x, ((![v806] : Fin 1 → IVec S16 32) a x).toNat < S32256.size a)
theorem k0_idx239_inb : ∀ (v806 : IVec S16 32) (k0_hw239 : k0_chk239 v806), ∀ a x, ((![v806] : Fin 1 → IVec S16 32) a x).toNat < S32256.size a := fun v806 k0_hw239 => k0_hw239

def k0_chk240 (v808 : IVec S16 32) : Prop :=
  (∀ a x, ((![v808] : Fin 1 → IVec S16 32) a x).toNat < S32256.size a)
theorem k0_idx240_inb : ∀ (v808 : IVec S16 32) (k0_hw240 : k0_chk240 v808), ∀ a x, ((![v808] : Fin 1 → IVec S16 32) a x).toNat < S32256.size a := fun v808 k0_hw240 => k0_hw240

def k0_chk241 (v810 : IVec S16 32) : Prop :=
  (∀ a x, ((![v810] : Fin 1 → IVec S16 32) a x).toNat < S32256.size a)
theorem k0_idx241_inb : ∀ (v810 : IVec S16 32) (k0_hw241 : k0_chk241 v810), ∀ a x, ((![v810] : Fin 1 → IVec S16 32) a x).toNat < S32256.size a := fun v810 k0_hw241 => k0_hw241

def k0_chk242 (v813 : IVec S16 32) : Prop :=
  (∀ a x, ((![v813] : Fin 1 → IVec S16 32) a x).toNat < S32256.size a)
theorem k0_idx242_inb : ∀ (v813 : IVec S16 32) (k0_hw242 : k0_chk242 v813), ∀ a x, ((![v813] : Fin 1 → IVec S16 32) a x).toNat < S32256.size a := fun v813 k0_hw242 => k0_hw242
def k0_off26 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_278 : BitVec 32 := 576#32
  let v814 : BitVec 32 := Scalar.muli arg15 c576_i32_278
  let c352_i32 : BitVec 32 := 352#32
  let v815 : BitVec 32 := Scalar.addi v814 c352_i32
  let v816 : Index := Scalar.indexCast v815
  ![v816.toNat]

def k0_chk243 (v823 : IVec S16 32) : Prop :=
  (∀ a x, ((![v823] : Fin 1 → IVec S16 32) a x).toNat < S16.size a)
theorem k0_idx243_inb : ∀ (v823 : IVec S16 32) (k0_hw243 : k0_chk243 v823), ∀ a x, ((![v823] : Fin 1 → IVec S16 32) a x).toNat < S16.size a := fun v823 k0_hw243 => k0_hw243

def k0_chk244 (v829 : IVec S16 32) : Prop :=
  (∀ a x, ((![v829] : Fin 1 → IVec S16 32) a x).toNat < S16.size a)
theorem k0_idx244_inb : ∀ (v829 : IVec S16 32) (k0_hw244 : k0_chk244 v829), ∀ a x, ((![v829] : Fin 1 → IVec S16 32) a x).toNat < S16.size a := fun v829 k0_hw244 => k0_hw244

def k0_chk245 (v832 : IVec S16 32) : Prop :=
  (∀ a x, ((![v832] : Fin 1 → IVec S16 32) a x).toNat < S16.size a)
theorem k0_idx245_inb : ∀ (v832 : IVec S16 32) (k0_hw245 : k0_chk245 v832), ∀ a x, ((![v832] : Fin 1 → IVec S16 32) a x).toNat < S16.size a := fun v832 k0_hw245 => k0_hw245

def k0_chk246 (v835 : IVec S16 32) : Prop :=
  (∀ a x, ((![v835] : Fin 1 → IVec S16 32) a x).toNat < S16.size a)
theorem k0_idx246_inb : ∀ (v835 : IVec S16 32) (k0_hw246 : k0_chk246 v835), ∀ a x, ((![v835] : Fin 1 → IVec S16 32) a x).toNat < S16.size a := fun v835 k0_hw246 => k0_hw246

def k0_chk247 (v826 : IVec S16 32) : Prop :=
  (∀ a x, ((![v826] : Fin 1 → IVec S16 32) a x).toNat < S32256.size a)
theorem k0_idx247_inb : ∀ (v826 : IVec S16 32) (k0_hw247 : k0_chk247 v826), ∀ a x, ((![v826] : Fin 1 → IVec S16 32) a x).toNat < S32256.size a := fun v826 k0_hw247 => k0_hw247

def k0_chk248 (v838 : IVec S16 32) : Prop :=
  (∀ a x, ((![v838] : Fin 1 → IVec S16 32) a x).toNat < S32256.size a)
theorem k0_idx248_inb : ∀ (v838 : IVec S16 32) (k0_hw248 : k0_chk248 v838), ∀ a x, ((![v838] : Fin 1 → IVec S16 32) a x).toNat < S32256.size a := fun v838 k0_hw248 => k0_hw248

def k0_chk249 (v840 : IVec S16 32) : Prop :=
  (∀ a x, ((![v840] : Fin 1 → IVec S16 32) a x).toNat < S32256.size a)
theorem k0_idx249_inb : ∀ (v840 : IVec S16 32) (k0_hw249 : k0_chk249 v840), ∀ a x, ((![v840] : Fin 1 → IVec S16 32) a x).toNat < S32256.size a := fun v840 k0_hw249 => k0_hw249

def k0_chk250 (v842 : IVec S16 32) : Prop :=
  (∀ a x, ((![v842] : Fin 1 → IVec S16 32) a x).toNat < S32256.size a)
theorem k0_idx250_inb : ∀ (v842 : IVec S16 32) (k0_hw250 : k0_chk250 v842), ∀ a x, ((![v842] : Fin 1 → IVec S16 32) a x).toNat < S32256.size a := fun v842 k0_hw250 => k0_hw250

def k0_chk251 (v844 : IVec S16 32) : Prop :=
  (∀ a x, ((![v844] : Fin 1 → IVec S16 32) a x).toNat < S32256.size a)
theorem k0_idx251_inb : ∀ (v844 : IVec S16 32) (k0_hw251 : k0_chk251 v844), ∀ a x, ((![v844] : Fin 1 → IVec S16 32) a x).toNat < S32256.size a := fun v844 k0_hw251 => k0_hw251

def k0_chk252 (v846 : IVec S16 32) : Prop :=
  (∀ a x, ((![v846] : Fin 1 → IVec S16 32) a x).toNat < S32256.size a)
theorem k0_idx252_inb : ∀ (v846 : IVec S16 32) (k0_hw252 : k0_chk252 v846), ∀ a x, ((![v846] : Fin 1 → IVec S16 32) a x).toNat < S32256.size a := fun v846 k0_hw252 => k0_hw252

def k0_chk253 (v849 : IVec S16 32) : Prop :=
  (∀ a x, ((![v849] : Fin 1 → IVec S16 32) a x).toNat < S32256.size a)
theorem k0_idx253_inb : ∀ (v849 : IVec S16 32) (k0_hw253 : k0_chk253 v849), ∀ a x, ((![v849] : Fin 1 → IVec S16 32) a x).toNat < S32256.size a := fun v849 k0_hw253 => k0_hw253
def k0_off27 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_290 : BitVec 32 := 576#32
  let v850 : BitVec 32 := Scalar.muli arg15 c576_i32_290
  let c368_i32 : BitVec 32 := 368#32
  let v851 : BitVec 32 := Scalar.addi v850 c368_i32
  let v852 : Index := Scalar.indexCast v851
  ![v852.toNat]

def k0_chk254 (v859 : IVec S16 32) : Prop :=
  (∀ a x, ((![v859] : Fin 1 → IVec S16 32) a x).toNat < S16.size a)
theorem k0_idx254_inb : ∀ (v859 : IVec S16 32) (k0_hw254 : k0_chk254 v859), ∀ a x, ((![v859] : Fin 1 → IVec S16 32) a x).toNat < S16.size a := fun v859 k0_hw254 => k0_hw254

def k0_chk255 (v865 : IVec S16 32) : Prop :=
  (∀ a x, ((![v865] : Fin 1 → IVec S16 32) a x).toNat < S16.size a)
theorem k0_idx255_inb : ∀ (v865 : IVec S16 32) (k0_hw255 : k0_chk255 v865), ∀ a x, ((![v865] : Fin 1 → IVec S16 32) a x).toNat < S16.size a := fun v865 k0_hw255 => k0_hw255

def k0_chk256 (v868 : IVec S16 32) : Prop :=
  (∀ a x, ((![v868] : Fin 1 → IVec S16 32) a x).toNat < S16.size a)
theorem k0_idx256_inb : ∀ (v868 : IVec S16 32) (k0_hw256 : k0_chk256 v868), ∀ a x, ((![v868] : Fin 1 → IVec S16 32) a x).toNat < S16.size a := fun v868 k0_hw256 => k0_hw256

def k0_chk257 (v871 : IVec S16 32) : Prop :=
  (∀ a x, ((![v871] : Fin 1 → IVec S16 32) a x).toNat < S16.size a)
theorem k0_idx257_inb : ∀ (v871 : IVec S16 32) (k0_hw257 : k0_chk257 v871), ∀ a x, ((![v871] : Fin 1 → IVec S16 32) a x).toNat < S16.size a := fun v871 k0_hw257 => k0_hw257

def k0_chk258 (v862 : IVec S16 32) : Prop :=
  (∀ a x, ((![v862] : Fin 1 → IVec S16 32) a x).toNat < S32256.size a)
theorem k0_idx258_inb : ∀ (v862 : IVec S16 32) (k0_hw258 : k0_chk258 v862), ∀ a x, ((![v862] : Fin 1 → IVec S16 32) a x).toNat < S32256.size a := fun v862 k0_hw258 => k0_hw258

def k0_chk259 (v874 : IVec S16 32) : Prop :=
  (∀ a x, ((![v874] : Fin 1 → IVec S16 32) a x).toNat < S32256.size a)
theorem k0_idx259_inb : ∀ (v874 : IVec S16 32) (k0_hw259 : k0_chk259 v874), ∀ a x, ((![v874] : Fin 1 → IVec S16 32) a x).toNat < S32256.size a := fun v874 k0_hw259 => k0_hw259

def k0_chk260 (v876 : IVec S16 32) : Prop :=
  (∀ a x, ((![v876] : Fin 1 → IVec S16 32) a x).toNat < S32256.size a)
theorem k0_idx260_inb : ∀ (v876 : IVec S16 32) (k0_hw260 : k0_chk260 v876), ∀ a x, ((![v876] : Fin 1 → IVec S16 32) a x).toNat < S32256.size a := fun v876 k0_hw260 => k0_hw260

def k0_chk261 (v878 : IVec S16 32) : Prop :=
  (∀ a x, ((![v878] : Fin 1 → IVec S16 32) a x).toNat < S32256.size a)
theorem k0_idx261_inb : ∀ (v878 : IVec S16 32) (k0_hw261 : k0_chk261 v878), ∀ a x, ((![v878] : Fin 1 → IVec S16 32) a x).toNat < S32256.size a := fun v878 k0_hw261 => k0_hw261

def k0_chk262 (v880 : IVec S16 32) : Prop :=
  (∀ a x, ((![v880] : Fin 1 → IVec S16 32) a x).toNat < S32256.size a)
theorem k0_idx262_inb : ∀ (v880 : IVec S16 32) (k0_hw262 : k0_chk262 v880), ∀ a x, ((![v880] : Fin 1 → IVec S16 32) a x).toNat < S32256.size a := fun v880 k0_hw262 => k0_hw262

def k0_chk263 (v882 : IVec S16 32) : Prop :=
  (∀ a x, ((![v882] : Fin 1 → IVec S16 32) a x).toNat < S32256.size a)
theorem k0_idx263_inb : ∀ (v882 : IVec S16 32) (k0_hw263 : k0_chk263 v882), ∀ a x, ((![v882] : Fin 1 → IVec S16 32) a x).toNat < S32256.size a := fun v882 k0_hw263 => k0_hw263

def k0_chk264 (v885 : IVec S16 32) : Prop :=
  (∀ a x, ((![v885] : Fin 1 → IVec S16 32) a x).toNat < S32256.size a)
theorem k0_idx264_inb : ∀ (v885 : IVec S16 32) (k0_hw264 : k0_chk264 v885), ∀ a x, ((![v885] : Fin 1 → IVec S16 32) a x).toNat < S32256.size a := fun v885 k0_hw264 => k0_hw264
def k0_off28 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_302 : BitVec 32 := 576#32
  let v886 : BitVec 32 := Scalar.muli arg15 c576_i32_302
  let c384_i32 : BitVec 32 := 384#32
  let v887 : BitVec 32 := Scalar.addi v886 c384_i32
  let v888 : Index := Scalar.indexCast v887
  ![v888.toNat]

def k0_chk265 (v895 : IVec S16 32) : Prop :=
  (∀ a x, ((![v895] : Fin 1 → IVec S16 32) a x).toNat < S16.size a)
theorem k0_idx265_inb : ∀ (v895 : IVec S16 32) (k0_hw265 : k0_chk265 v895), ∀ a x, ((![v895] : Fin 1 → IVec S16 32) a x).toNat < S16.size a := fun v895 k0_hw265 => k0_hw265

def k0_chk266 (v901 : IVec S16 32) : Prop :=
  (∀ a x, ((![v901] : Fin 1 → IVec S16 32) a x).toNat < S16.size a)
theorem k0_idx266_inb : ∀ (v901 : IVec S16 32) (k0_hw266 : k0_chk266 v901), ∀ a x, ((![v901] : Fin 1 → IVec S16 32) a x).toNat < S16.size a := fun v901 k0_hw266 => k0_hw266

def k0_chk267 (v904 : IVec S16 32) : Prop :=
  (∀ a x, ((![v904] : Fin 1 → IVec S16 32) a x).toNat < S16.size a)
theorem k0_idx267_inb : ∀ (v904 : IVec S16 32) (k0_hw267 : k0_chk267 v904), ∀ a x, ((![v904] : Fin 1 → IVec S16 32) a x).toNat < S16.size a := fun v904 k0_hw267 => k0_hw267

def k0_chk268 (v907 : IVec S16 32) : Prop :=
  (∀ a x, ((![v907] : Fin 1 → IVec S16 32) a x).toNat < S16.size a)
theorem k0_idx268_inb : ∀ (v907 : IVec S16 32) (k0_hw268 : k0_chk268 v907), ∀ a x, ((![v907] : Fin 1 → IVec S16 32) a x).toNat < S16.size a := fun v907 k0_hw268 => k0_hw268

def k0_chk269 (v898 : IVec S16 32) : Prop :=
  (∀ a x, ((![v898] : Fin 1 → IVec S16 32) a x).toNat < S32256.size a)
theorem k0_idx269_inb : ∀ (v898 : IVec S16 32) (k0_hw269 : k0_chk269 v898), ∀ a x, ((![v898] : Fin 1 → IVec S16 32) a x).toNat < S32256.size a := fun v898 k0_hw269 => k0_hw269

def k0_chk270 (v910 : IVec S16 32) : Prop :=
  (∀ a x, ((![v910] : Fin 1 → IVec S16 32) a x).toNat < S32256.size a)
theorem k0_idx270_inb : ∀ (v910 : IVec S16 32) (k0_hw270 : k0_chk270 v910), ∀ a x, ((![v910] : Fin 1 → IVec S16 32) a x).toNat < S32256.size a := fun v910 k0_hw270 => k0_hw270

def k0_chk271 (v912 : IVec S16 32) : Prop :=
  (∀ a x, ((![v912] : Fin 1 → IVec S16 32) a x).toNat < S32256.size a)
theorem k0_idx271_inb : ∀ (v912 : IVec S16 32) (k0_hw271 : k0_chk271 v912), ∀ a x, ((![v912] : Fin 1 → IVec S16 32) a x).toNat < S32256.size a := fun v912 k0_hw271 => k0_hw271

def k0_chk272 (v914 : IVec S16 32) : Prop :=
  (∀ a x, ((![v914] : Fin 1 → IVec S16 32) a x).toNat < S32256.size a)
theorem k0_idx272_inb : ∀ (v914 : IVec S16 32) (k0_hw272 : k0_chk272 v914), ∀ a x, ((![v914] : Fin 1 → IVec S16 32) a x).toNat < S32256.size a := fun v914 k0_hw272 => k0_hw272

def k0_chk273 (v916 : IVec S16 32) : Prop :=
  (∀ a x, ((![v916] : Fin 1 → IVec S16 32) a x).toNat < S32256.size a)
theorem k0_idx273_inb : ∀ (v916 : IVec S16 32) (k0_hw273 : k0_chk273 v916), ∀ a x, ((![v916] : Fin 1 → IVec S16 32) a x).toNat < S32256.size a := fun v916 k0_hw273 => k0_hw273

def k0_chk274 (v918 : IVec S16 32) : Prop :=
  (∀ a x, ((![v918] : Fin 1 → IVec S16 32) a x).toNat < S32256.size a)
theorem k0_idx274_inb : ∀ (v918 : IVec S16 32) (k0_hw274 : k0_chk274 v918), ∀ a x, ((![v918] : Fin 1 → IVec S16 32) a x).toNat < S32256.size a := fun v918 k0_hw274 => k0_hw274

def k0_chk275 (v921 : IVec S16 32) : Prop :=
  (∀ a x, ((![v921] : Fin 1 → IVec S16 32) a x).toNat < S32256.size a)
theorem k0_idx275_inb : ∀ (v921 : IVec S16 32) (k0_hw275 : k0_chk275 v921), ∀ a x, ((![v921] : Fin 1 → IVec S16 32) a x).toNat < S32256.size a := fun v921 k0_hw275 => k0_hw275
def k0_off29 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_314 : BitVec 32 := 576#32
  let v922 : BitVec 32 := Scalar.muli arg15 c576_i32_314
  let c400_i32 : BitVec 32 := 400#32
  let v923 : BitVec 32 := Scalar.addi v922 c400_i32
  let v924 : Index := Scalar.indexCast v923
  ![v924.toNat]

def k0_chk276 (v931 : IVec S16 32) : Prop :=
  (∀ a x, ((![v931] : Fin 1 → IVec S16 32) a x).toNat < S16.size a)
theorem k0_idx276_inb : ∀ (v931 : IVec S16 32) (k0_hw276 : k0_chk276 v931), ∀ a x, ((![v931] : Fin 1 → IVec S16 32) a x).toNat < S16.size a := fun v931 k0_hw276 => k0_hw276

def k0_chk277 (v937 : IVec S16 32) : Prop :=
  (∀ a x, ((![v937] : Fin 1 → IVec S16 32) a x).toNat < S16.size a)
theorem k0_idx277_inb : ∀ (v937 : IVec S16 32) (k0_hw277 : k0_chk277 v937), ∀ a x, ((![v937] : Fin 1 → IVec S16 32) a x).toNat < S16.size a := fun v937 k0_hw277 => k0_hw277

def k0_chk278 (v940 : IVec S16 32) : Prop :=
  (∀ a x, ((![v940] : Fin 1 → IVec S16 32) a x).toNat < S16.size a)
theorem k0_idx278_inb : ∀ (v940 : IVec S16 32) (k0_hw278 : k0_chk278 v940), ∀ a x, ((![v940] : Fin 1 → IVec S16 32) a x).toNat < S16.size a := fun v940 k0_hw278 => k0_hw278

def k0_chk279 (v943 : IVec S16 32) : Prop :=
  (∀ a x, ((![v943] : Fin 1 → IVec S16 32) a x).toNat < S16.size a)
theorem k0_idx279_inb : ∀ (v943 : IVec S16 32) (k0_hw279 : k0_chk279 v943), ∀ a x, ((![v943] : Fin 1 → IVec S16 32) a x).toNat < S16.size a := fun v943 k0_hw279 => k0_hw279

def k0_chk280 (v934 : IVec S16 32) : Prop :=
  (∀ a x, ((![v934] : Fin 1 → IVec S16 32) a x).toNat < S32256.size a)
theorem k0_idx280_inb : ∀ (v934 : IVec S16 32) (k0_hw280 : k0_chk280 v934), ∀ a x, ((![v934] : Fin 1 → IVec S16 32) a x).toNat < S32256.size a := fun v934 k0_hw280 => k0_hw280

def k0_chk281 (v946 : IVec S16 32) : Prop :=
  (∀ a x, ((![v946] : Fin 1 → IVec S16 32) a x).toNat < S32256.size a)
theorem k0_idx281_inb : ∀ (v946 : IVec S16 32) (k0_hw281 : k0_chk281 v946), ∀ a x, ((![v946] : Fin 1 → IVec S16 32) a x).toNat < S32256.size a := fun v946 k0_hw281 => k0_hw281

def k0_chk282 (v948 : IVec S16 32) : Prop :=
  (∀ a x, ((![v948] : Fin 1 → IVec S16 32) a x).toNat < S32256.size a)
theorem k0_idx282_inb : ∀ (v948 : IVec S16 32) (k0_hw282 : k0_chk282 v948), ∀ a x, ((![v948] : Fin 1 → IVec S16 32) a x).toNat < S32256.size a := fun v948 k0_hw282 => k0_hw282

def k0_chk283 (v950 : IVec S16 32) : Prop :=
  (∀ a x, ((![v950] : Fin 1 → IVec S16 32) a x).toNat < S32256.size a)
theorem k0_idx283_inb : ∀ (v950 : IVec S16 32) (k0_hw283 : k0_chk283 v950), ∀ a x, ((![v950] : Fin 1 → IVec S16 32) a x).toNat < S32256.size a := fun v950 k0_hw283 => k0_hw283

def k0_chk284 (v952 : IVec S16 32) : Prop :=
  (∀ a x, ((![v952] : Fin 1 → IVec S16 32) a x).toNat < S32256.size a)
theorem k0_idx284_inb : ∀ (v952 : IVec S16 32) (k0_hw284 : k0_chk284 v952), ∀ a x, ((![v952] : Fin 1 → IVec S16 32) a x).toNat < S32256.size a := fun v952 k0_hw284 => k0_hw284

def k0_chk285 (v954 : IVec S16 32) : Prop :=
  (∀ a x, ((![v954] : Fin 1 → IVec S16 32) a x).toNat < S32256.size a)
theorem k0_idx285_inb : ∀ (v954 : IVec S16 32) (k0_hw285 : k0_chk285 v954), ∀ a x, ((![v954] : Fin 1 → IVec S16 32) a x).toNat < S32256.size a := fun v954 k0_hw285 => k0_hw285

def k0_chk286 (v957 : IVec S16 32) : Prop :=
  (∀ a x, ((![v957] : Fin 1 → IVec S16 32) a x).toNat < S32256.size a)
theorem k0_idx286_inb : ∀ (v957 : IVec S16 32) (k0_hw286 : k0_chk286 v957), ∀ a x, ((![v957] : Fin 1 → IVec S16 32) a x).toNat < S32256.size a := fun v957 k0_hw286 => k0_hw286
def k0_off30 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_326 : BitVec 32 := 576#32
  let v958 : BitVec 32 := Scalar.muli arg15 c576_i32_326
  let c416_i32 : BitVec 32 := 416#32
  let v959 : BitVec 32 := Scalar.addi v958 c416_i32
  let v960 : Index := Scalar.indexCast v959
  ![v960.toNat]

def k0_chk287 (v967 : IVec S16 32) : Prop :=
  (∀ a x, ((![v967] : Fin 1 → IVec S16 32) a x).toNat < S16.size a)
theorem k0_idx287_inb : ∀ (v967 : IVec S16 32) (k0_hw287 : k0_chk287 v967), ∀ a x, ((![v967] : Fin 1 → IVec S16 32) a x).toNat < S16.size a := fun v967 k0_hw287 => k0_hw287

def k0_chk288 (v973 : IVec S16 32) : Prop :=
  (∀ a x, ((![v973] : Fin 1 → IVec S16 32) a x).toNat < S16.size a)
theorem k0_idx288_inb : ∀ (v973 : IVec S16 32) (k0_hw288 : k0_chk288 v973), ∀ a x, ((![v973] : Fin 1 → IVec S16 32) a x).toNat < S16.size a := fun v973 k0_hw288 => k0_hw288

def k0_chk289 (v976 : IVec S16 32) : Prop :=
  (∀ a x, ((![v976] : Fin 1 → IVec S16 32) a x).toNat < S16.size a)
theorem k0_idx289_inb : ∀ (v976 : IVec S16 32) (k0_hw289 : k0_chk289 v976), ∀ a x, ((![v976] : Fin 1 → IVec S16 32) a x).toNat < S16.size a := fun v976 k0_hw289 => k0_hw289

def k0_chk290 (v979 : IVec S16 32) : Prop :=
  (∀ a x, ((![v979] : Fin 1 → IVec S16 32) a x).toNat < S16.size a)
theorem k0_idx290_inb : ∀ (v979 : IVec S16 32) (k0_hw290 : k0_chk290 v979), ∀ a x, ((![v979] : Fin 1 → IVec S16 32) a x).toNat < S16.size a := fun v979 k0_hw290 => k0_hw290

def k0_chk291 (v970 : IVec S16 32) : Prop :=
  (∀ a x, ((![v970] : Fin 1 → IVec S16 32) a x).toNat < S32256.size a)
theorem k0_idx291_inb : ∀ (v970 : IVec S16 32) (k0_hw291 : k0_chk291 v970), ∀ a x, ((![v970] : Fin 1 → IVec S16 32) a x).toNat < S32256.size a := fun v970 k0_hw291 => k0_hw291

def k0_chk292 (v982 : IVec S16 32) : Prop :=
  (∀ a x, ((![v982] : Fin 1 → IVec S16 32) a x).toNat < S32256.size a)
theorem k0_idx292_inb : ∀ (v982 : IVec S16 32) (k0_hw292 : k0_chk292 v982), ∀ a x, ((![v982] : Fin 1 → IVec S16 32) a x).toNat < S32256.size a := fun v982 k0_hw292 => k0_hw292

def k0_chk293 (v984 : IVec S16 32) : Prop :=
  (∀ a x, ((![v984] : Fin 1 → IVec S16 32) a x).toNat < S32256.size a)
theorem k0_idx293_inb : ∀ (v984 : IVec S16 32) (k0_hw293 : k0_chk293 v984), ∀ a x, ((![v984] : Fin 1 → IVec S16 32) a x).toNat < S32256.size a := fun v984 k0_hw293 => k0_hw293

def k0_chk294 (v986 : IVec S16 32) : Prop :=
  (∀ a x, ((![v986] : Fin 1 → IVec S16 32) a x).toNat < S32256.size a)
theorem k0_idx294_inb : ∀ (v986 : IVec S16 32) (k0_hw294 : k0_chk294 v986), ∀ a x, ((![v986] : Fin 1 → IVec S16 32) a x).toNat < S32256.size a := fun v986 k0_hw294 => k0_hw294

def k0_chk295 (v988 : IVec S16 32) : Prop :=
  (∀ a x, ((![v988] : Fin 1 → IVec S16 32) a x).toNat < S32256.size a)
theorem k0_idx295_inb : ∀ (v988 : IVec S16 32) (k0_hw295 : k0_chk295 v988), ∀ a x, ((![v988] : Fin 1 → IVec S16 32) a x).toNat < S32256.size a := fun v988 k0_hw295 => k0_hw295

def k0_chk296 (v990 : IVec S16 32) : Prop :=
  (∀ a x, ((![v990] : Fin 1 → IVec S16 32) a x).toNat < S32256.size a)
theorem k0_idx296_inb : ∀ (v990 : IVec S16 32) (k0_hw296 : k0_chk296 v990), ∀ a x, ((![v990] : Fin 1 → IVec S16 32) a x).toNat < S32256.size a := fun v990 k0_hw296 => k0_hw296

def k0_chk297 (v993 : IVec S16 32) : Prop :=
  (∀ a x, ((![v993] : Fin 1 → IVec S16 32) a x).toNat < S32256.size a)
theorem k0_idx297_inb : ∀ (v993 : IVec S16 32) (k0_hw297 : k0_chk297 v993), ∀ a x, ((![v993] : Fin 1 → IVec S16 32) a x).toNat < S32256.size a := fun v993 k0_hw297 => k0_hw297
def k0_off31 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_338 : BitVec 32 := 576#32
  let v994 : BitVec 32 := Scalar.muli arg15 c576_i32_338
  let c432_i32 : BitVec 32 := 432#32
  let v995 : BitVec 32 := Scalar.addi v994 c432_i32
  let v996 : Index := Scalar.indexCast v995
  ![v996.toNat]

def k0_chk298 (v1003 : IVec S16 32) : Prop :=
  (∀ a x, ((![v1003] : Fin 1 → IVec S16 32) a x).toNat < S16.size a)
theorem k0_idx298_inb : ∀ (v1003 : IVec S16 32) (k0_hw298 : k0_chk298 v1003), ∀ a x, ((![v1003] : Fin 1 → IVec S16 32) a x).toNat < S16.size a := fun v1003 k0_hw298 => k0_hw298

def k0_chk299 (v1009 : IVec S16 32) : Prop :=
  (∀ a x, ((![v1009] : Fin 1 → IVec S16 32) a x).toNat < S16.size a)
theorem k0_idx299_inb : ∀ (v1009 : IVec S16 32) (k0_hw299 : k0_chk299 v1009), ∀ a x, ((![v1009] : Fin 1 → IVec S16 32) a x).toNat < S16.size a := fun v1009 k0_hw299 => k0_hw299

def k0_chk300 (v1012 : IVec S16 32) : Prop :=
  (∀ a x, ((![v1012] : Fin 1 → IVec S16 32) a x).toNat < S16.size a)
theorem k0_idx300_inb : ∀ (v1012 : IVec S16 32) (k0_hw300 : k0_chk300 v1012), ∀ a x, ((![v1012] : Fin 1 → IVec S16 32) a x).toNat < S16.size a := fun v1012 k0_hw300 => k0_hw300

def k0_chk301 (v1015 : IVec S16 32) : Prop :=
  (∀ a x, ((![v1015] : Fin 1 → IVec S16 32) a x).toNat < S16.size a)
theorem k0_idx301_inb : ∀ (v1015 : IVec S16 32) (k0_hw301 : k0_chk301 v1015), ∀ a x, ((![v1015] : Fin 1 → IVec S16 32) a x).toNat < S16.size a := fun v1015 k0_hw301 => k0_hw301

def k0_chk302 (v1006 : IVec S16 32) : Prop :=
  (∀ a x, ((![v1006] : Fin 1 → IVec S16 32) a x).toNat < S32256.size a)
theorem k0_idx302_inb : ∀ (v1006 : IVec S16 32) (k0_hw302 : k0_chk302 v1006), ∀ a x, ((![v1006] : Fin 1 → IVec S16 32) a x).toNat < S32256.size a := fun v1006 k0_hw302 => k0_hw302

def k0_chk303 (v1018 : IVec S16 32) : Prop :=
  (∀ a x, ((![v1018] : Fin 1 → IVec S16 32) a x).toNat < S32256.size a)
theorem k0_idx303_inb : ∀ (v1018 : IVec S16 32) (k0_hw303 : k0_chk303 v1018), ∀ a x, ((![v1018] : Fin 1 → IVec S16 32) a x).toNat < S32256.size a := fun v1018 k0_hw303 => k0_hw303

def k0_chk304 (v1020 : IVec S16 32) : Prop :=
  (∀ a x, ((![v1020] : Fin 1 → IVec S16 32) a x).toNat < S32256.size a)
theorem k0_idx304_inb : ∀ (v1020 : IVec S16 32) (k0_hw304 : k0_chk304 v1020), ∀ a x, ((![v1020] : Fin 1 → IVec S16 32) a x).toNat < S32256.size a := fun v1020 k0_hw304 => k0_hw304

def k0_chk305 (v1022 : IVec S16 32) : Prop :=
  (∀ a x, ((![v1022] : Fin 1 → IVec S16 32) a x).toNat < S32256.size a)
theorem k0_idx305_inb : ∀ (v1022 : IVec S16 32) (k0_hw305 : k0_chk305 v1022), ∀ a x, ((![v1022] : Fin 1 → IVec S16 32) a x).toNat < S32256.size a := fun v1022 k0_hw305 => k0_hw305

def k0_chk306 (v1024 : IVec S16 32) : Prop :=
  (∀ a x, ((![v1024] : Fin 1 → IVec S16 32) a x).toNat < S32256.size a)
theorem k0_idx306_inb : ∀ (v1024 : IVec S16 32) (k0_hw306 : k0_chk306 v1024), ∀ a x, ((![v1024] : Fin 1 → IVec S16 32) a x).toNat < S32256.size a := fun v1024 k0_hw306 => k0_hw306

def k0_chk307 (v1026 : IVec S16 32) : Prop :=
  (∀ a x, ((![v1026] : Fin 1 → IVec S16 32) a x).toNat < S32256.size a)
theorem k0_idx307_inb : ∀ (v1026 : IVec S16 32) (k0_hw307 : k0_chk307 v1026), ∀ a x, ((![v1026] : Fin 1 → IVec S16 32) a x).toNat < S32256.size a := fun v1026 k0_hw307 => k0_hw307

def k0_chk308 (v1029 : IVec S16 32) : Prop :=
  (∀ a x, ((![v1029] : Fin 1 → IVec S16 32) a x).toNat < S32256.size a)
theorem k0_idx308_inb : ∀ (v1029 : IVec S16 32) (k0_hw308 : k0_chk308 v1029), ∀ a x, ((![v1029] : Fin 1 → IVec S16 32) a x).toNat < S32256.size a := fun v1029 k0_hw308 => k0_hw308
def k0_off32 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_350 : BitVec 32 := 576#32
  let v1030 : BitVec 32 := Scalar.muli arg15 c576_i32_350
  let c448_i32 : BitVec 32 := 448#32
  let v1031 : BitVec 32 := Scalar.addi v1030 c448_i32
  let v1032 : Index := Scalar.indexCast v1031
  ![v1032.toNat]

def k0_chk309 (v1039 : IVec S16 32) : Prop :=
  (∀ a x, ((![v1039] : Fin 1 → IVec S16 32) a x).toNat < S16.size a)
theorem k0_idx309_inb : ∀ (v1039 : IVec S16 32) (k0_hw309 : k0_chk309 v1039), ∀ a x, ((![v1039] : Fin 1 → IVec S16 32) a x).toNat < S16.size a := fun v1039 k0_hw309 => k0_hw309

def k0_chk310 (v1045 : IVec S16 32) : Prop :=
  (∀ a x, ((![v1045] : Fin 1 → IVec S16 32) a x).toNat < S16.size a)
theorem k0_idx310_inb : ∀ (v1045 : IVec S16 32) (k0_hw310 : k0_chk310 v1045), ∀ a x, ((![v1045] : Fin 1 → IVec S16 32) a x).toNat < S16.size a := fun v1045 k0_hw310 => k0_hw310

def k0_chk311 (v1048 : IVec S16 32) : Prop :=
  (∀ a x, ((![v1048] : Fin 1 → IVec S16 32) a x).toNat < S16.size a)
theorem k0_idx311_inb : ∀ (v1048 : IVec S16 32) (k0_hw311 : k0_chk311 v1048), ∀ a x, ((![v1048] : Fin 1 → IVec S16 32) a x).toNat < S16.size a := fun v1048 k0_hw311 => k0_hw311

def k0_chk312 (v1051 : IVec S16 32) : Prop :=
  (∀ a x, ((![v1051] : Fin 1 → IVec S16 32) a x).toNat < S16.size a)
theorem k0_idx312_inb : ∀ (v1051 : IVec S16 32) (k0_hw312 : k0_chk312 v1051), ∀ a x, ((![v1051] : Fin 1 → IVec S16 32) a x).toNat < S16.size a := fun v1051 k0_hw312 => k0_hw312

def k0_chk313 (v1042 : IVec S16 32) : Prop :=
  (∀ a x, ((![v1042] : Fin 1 → IVec S16 32) a x).toNat < S32256.size a)
theorem k0_idx313_inb : ∀ (v1042 : IVec S16 32) (k0_hw313 : k0_chk313 v1042), ∀ a x, ((![v1042] : Fin 1 → IVec S16 32) a x).toNat < S32256.size a := fun v1042 k0_hw313 => k0_hw313

def k0_chk314 (v1054 : IVec S16 32) : Prop :=
  (∀ a x, ((![v1054] : Fin 1 → IVec S16 32) a x).toNat < S32256.size a)
theorem k0_idx314_inb : ∀ (v1054 : IVec S16 32) (k0_hw314 : k0_chk314 v1054), ∀ a x, ((![v1054] : Fin 1 → IVec S16 32) a x).toNat < S32256.size a := fun v1054 k0_hw314 => k0_hw314

def k0_chk315 (v1056 : IVec S16 32) : Prop :=
  (∀ a x, ((![v1056] : Fin 1 → IVec S16 32) a x).toNat < S32256.size a)
theorem k0_idx315_inb : ∀ (v1056 : IVec S16 32) (k0_hw315 : k0_chk315 v1056), ∀ a x, ((![v1056] : Fin 1 → IVec S16 32) a x).toNat < S32256.size a := fun v1056 k0_hw315 => k0_hw315

def k0_chk316 (v1058 : IVec S16 32) : Prop :=
  (∀ a x, ((![v1058] : Fin 1 → IVec S16 32) a x).toNat < S32256.size a)
theorem k0_idx316_inb : ∀ (v1058 : IVec S16 32) (k0_hw316 : k0_chk316 v1058), ∀ a x, ((![v1058] : Fin 1 → IVec S16 32) a x).toNat < S32256.size a := fun v1058 k0_hw316 => k0_hw316

def k0_chk317 (v1060 : IVec S16 32) : Prop :=
  (∀ a x, ((![v1060] : Fin 1 → IVec S16 32) a x).toNat < S32256.size a)
theorem k0_idx317_inb : ∀ (v1060 : IVec S16 32) (k0_hw317 : k0_chk317 v1060), ∀ a x, ((![v1060] : Fin 1 → IVec S16 32) a x).toNat < S32256.size a := fun v1060 k0_hw317 => k0_hw317

def k0_chk318 (v1062 : IVec S16 32) : Prop :=
  (∀ a x, ((![v1062] : Fin 1 → IVec S16 32) a x).toNat < S32256.size a)
theorem k0_idx318_inb : ∀ (v1062 : IVec S16 32) (k0_hw318 : k0_chk318 v1062), ∀ a x, ((![v1062] : Fin 1 → IVec S16 32) a x).toNat < S32256.size a := fun v1062 k0_hw318 => k0_hw318

def k0_chk319 (v1065 : IVec S16 32) : Prop :=
  (∀ a x, ((![v1065] : Fin 1 → IVec S16 32) a x).toNat < S32256.size a)
theorem k0_idx319_inb : ∀ (v1065 : IVec S16 32) (k0_hw319 : k0_chk319 v1065), ∀ a x, ((![v1065] : Fin 1 → IVec S16 32) a x).toNat < S32256.size a := fun v1065 k0_hw319 => k0_hw319
def k0_off33 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_362 : BitVec 32 := 576#32
  let v1066 : BitVec 32 := Scalar.muli arg15 c576_i32_362
  let c464_i32 : BitVec 32 := 464#32
  let v1067 : BitVec 32 := Scalar.addi v1066 c464_i32
  let v1068 : Index := Scalar.indexCast v1067
  ![v1068.toNat]

def k0_chk320 (v1075 : IVec S16 32) : Prop :=
  (∀ a x, ((![v1075] : Fin 1 → IVec S16 32) a x).toNat < S16.size a)
theorem k0_idx320_inb : ∀ (v1075 : IVec S16 32) (k0_hw320 : k0_chk320 v1075), ∀ a x, ((![v1075] : Fin 1 → IVec S16 32) a x).toNat < S16.size a := fun v1075 k0_hw320 => k0_hw320

def k0_chk321 (v1081 : IVec S16 32) : Prop :=
  (∀ a x, ((![v1081] : Fin 1 → IVec S16 32) a x).toNat < S16.size a)
theorem k0_idx321_inb : ∀ (v1081 : IVec S16 32) (k0_hw321 : k0_chk321 v1081), ∀ a x, ((![v1081] : Fin 1 → IVec S16 32) a x).toNat < S16.size a := fun v1081 k0_hw321 => k0_hw321

def k0_chk322 (v1084 : IVec S16 32) : Prop :=
  (∀ a x, ((![v1084] : Fin 1 → IVec S16 32) a x).toNat < S16.size a)
theorem k0_idx322_inb : ∀ (v1084 : IVec S16 32) (k0_hw322 : k0_chk322 v1084), ∀ a x, ((![v1084] : Fin 1 → IVec S16 32) a x).toNat < S16.size a := fun v1084 k0_hw322 => k0_hw322

def k0_chk323 (v1087 : IVec S16 32) : Prop :=
  (∀ a x, ((![v1087] : Fin 1 → IVec S16 32) a x).toNat < S16.size a)
theorem k0_idx323_inb : ∀ (v1087 : IVec S16 32) (k0_hw323 : k0_chk323 v1087), ∀ a x, ((![v1087] : Fin 1 → IVec S16 32) a x).toNat < S16.size a := fun v1087 k0_hw323 => k0_hw323

def k0_chk324 (v1078 : IVec S16 32) : Prop :=
  (∀ a x, ((![v1078] : Fin 1 → IVec S16 32) a x).toNat < S32256.size a)
theorem k0_idx324_inb : ∀ (v1078 : IVec S16 32) (k0_hw324 : k0_chk324 v1078), ∀ a x, ((![v1078] : Fin 1 → IVec S16 32) a x).toNat < S32256.size a := fun v1078 k0_hw324 => k0_hw324

def k0_chk325 (v1090 : IVec S16 32) : Prop :=
  (∀ a x, ((![v1090] : Fin 1 → IVec S16 32) a x).toNat < S32256.size a)
theorem k0_idx325_inb : ∀ (v1090 : IVec S16 32) (k0_hw325 : k0_chk325 v1090), ∀ a x, ((![v1090] : Fin 1 → IVec S16 32) a x).toNat < S32256.size a := fun v1090 k0_hw325 => k0_hw325

def k0_chk326 (v1092 : IVec S16 32) : Prop :=
  (∀ a x, ((![v1092] : Fin 1 → IVec S16 32) a x).toNat < S32256.size a)
theorem k0_idx326_inb : ∀ (v1092 : IVec S16 32) (k0_hw326 : k0_chk326 v1092), ∀ a x, ((![v1092] : Fin 1 → IVec S16 32) a x).toNat < S32256.size a := fun v1092 k0_hw326 => k0_hw326

def k0_chk327 (v1094 : IVec S16 32) : Prop :=
  (∀ a x, ((![v1094] : Fin 1 → IVec S16 32) a x).toNat < S32256.size a)
theorem k0_idx327_inb : ∀ (v1094 : IVec S16 32) (k0_hw327 : k0_chk327 v1094), ∀ a x, ((![v1094] : Fin 1 → IVec S16 32) a x).toNat < S32256.size a := fun v1094 k0_hw327 => k0_hw327

def k0_chk328 (v1096 : IVec S16 32) : Prop :=
  (∀ a x, ((![v1096] : Fin 1 → IVec S16 32) a x).toNat < S32256.size a)
theorem k0_idx328_inb : ∀ (v1096 : IVec S16 32) (k0_hw328 : k0_chk328 v1096), ∀ a x, ((![v1096] : Fin 1 → IVec S16 32) a x).toNat < S32256.size a := fun v1096 k0_hw328 => k0_hw328

def k0_chk329 (v1098 : IVec S16 32) : Prop :=
  (∀ a x, ((![v1098] : Fin 1 → IVec S16 32) a x).toNat < S32256.size a)
theorem k0_idx329_inb : ∀ (v1098 : IVec S16 32) (k0_hw329 : k0_chk329 v1098), ∀ a x, ((![v1098] : Fin 1 → IVec S16 32) a x).toNat < S32256.size a := fun v1098 k0_hw329 => k0_hw329

def k0_chk330 (v1101 : IVec S16 32) : Prop :=
  (∀ a x, ((![v1101] : Fin 1 → IVec S16 32) a x).toNat < S32256.size a)
theorem k0_idx330_inb : ∀ (v1101 : IVec S16 32) (k0_hw330 : k0_chk330 v1101), ∀ a x, ((![v1101] : Fin 1 → IVec S16 32) a x).toNat < S32256.size a := fun v1101 k0_hw330 => k0_hw330
def k0_off34 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_374 : BitVec 32 := 576#32
  let v1102 : BitVec 32 := Scalar.muli arg15 c576_i32_374
  let c480_i32 : BitVec 32 := 480#32
  let v1103 : BitVec 32 := Scalar.addi v1102 c480_i32
  let v1104 : Index := Scalar.indexCast v1103
  ![v1104.toNat]

def k0_chk331 (v1111 : IVec S16 32) : Prop :=
  (∀ a x, ((![v1111] : Fin 1 → IVec S16 32) a x).toNat < S16.size a)
theorem k0_idx331_inb : ∀ (v1111 : IVec S16 32) (k0_hw331 : k0_chk331 v1111), ∀ a x, ((![v1111] : Fin 1 → IVec S16 32) a x).toNat < S16.size a := fun v1111 k0_hw331 => k0_hw331

def k0_chk332 (v1117 : IVec S16 32) : Prop :=
  (∀ a x, ((![v1117] : Fin 1 → IVec S16 32) a x).toNat < S16.size a)
theorem k0_idx332_inb : ∀ (v1117 : IVec S16 32) (k0_hw332 : k0_chk332 v1117), ∀ a x, ((![v1117] : Fin 1 → IVec S16 32) a x).toNat < S16.size a := fun v1117 k0_hw332 => k0_hw332

def k0_chk333 (v1120 : IVec S16 32) : Prop :=
  (∀ a x, ((![v1120] : Fin 1 → IVec S16 32) a x).toNat < S16.size a)
theorem k0_idx333_inb : ∀ (v1120 : IVec S16 32) (k0_hw333 : k0_chk333 v1120), ∀ a x, ((![v1120] : Fin 1 → IVec S16 32) a x).toNat < S16.size a := fun v1120 k0_hw333 => k0_hw333

def k0_chk334 (v1123 : IVec S16 32) : Prop :=
  (∀ a x, ((![v1123] : Fin 1 → IVec S16 32) a x).toNat < S16.size a)
theorem k0_idx334_inb : ∀ (v1123 : IVec S16 32) (k0_hw334 : k0_chk334 v1123), ∀ a x, ((![v1123] : Fin 1 → IVec S16 32) a x).toNat < S16.size a := fun v1123 k0_hw334 => k0_hw334

def k0_chk335 (v1114 : IVec S16 32) : Prop :=
  (∀ a x, ((![v1114] : Fin 1 → IVec S16 32) a x).toNat < S32256.size a)
theorem k0_idx335_inb : ∀ (v1114 : IVec S16 32) (k0_hw335 : k0_chk335 v1114), ∀ a x, ((![v1114] : Fin 1 → IVec S16 32) a x).toNat < S32256.size a := fun v1114 k0_hw335 => k0_hw335

def k0_chk336 (v1126 : IVec S16 32) : Prop :=
  (∀ a x, ((![v1126] : Fin 1 → IVec S16 32) a x).toNat < S32256.size a)
theorem k0_idx336_inb : ∀ (v1126 : IVec S16 32) (k0_hw336 : k0_chk336 v1126), ∀ a x, ((![v1126] : Fin 1 → IVec S16 32) a x).toNat < S32256.size a := fun v1126 k0_hw336 => k0_hw336

def k0_chk337 (v1128 : IVec S16 32) : Prop :=
  (∀ a x, ((![v1128] : Fin 1 → IVec S16 32) a x).toNat < S32256.size a)
theorem k0_idx337_inb : ∀ (v1128 : IVec S16 32) (k0_hw337 : k0_chk337 v1128), ∀ a x, ((![v1128] : Fin 1 → IVec S16 32) a x).toNat < S32256.size a := fun v1128 k0_hw337 => k0_hw337

def k0_chk338 (v1130 : IVec S16 32) : Prop :=
  (∀ a x, ((![v1130] : Fin 1 → IVec S16 32) a x).toNat < S32256.size a)
theorem k0_idx338_inb : ∀ (v1130 : IVec S16 32) (k0_hw338 : k0_chk338 v1130), ∀ a x, ((![v1130] : Fin 1 → IVec S16 32) a x).toNat < S32256.size a := fun v1130 k0_hw338 => k0_hw338

def k0_chk339 (v1132 : IVec S16 32) : Prop :=
  (∀ a x, ((![v1132] : Fin 1 → IVec S16 32) a x).toNat < S32256.size a)
theorem k0_idx339_inb : ∀ (v1132 : IVec S16 32) (k0_hw339 : k0_chk339 v1132), ∀ a x, ((![v1132] : Fin 1 → IVec S16 32) a x).toNat < S32256.size a := fun v1132 k0_hw339 => k0_hw339

def k0_chk340 (v1134 : IVec S16 32) : Prop :=
  (∀ a x, ((![v1134] : Fin 1 → IVec S16 32) a x).toNat < S32256.size a)
theorem k0_idx340_inb : ∀ (v1134 : IVec S16 32) (k0_hw340 : k0_chk340 v1134), ∀ a x, ((![v1134] : Fin 1 → IVec S16 32) a x).toNat < S32256.size a := fun v1134 k0_hw340 => k0_hw340

def k0_chk341 (v1137 : IVec S16 32) : Prop :=
  (∀ a x, ((![v1137] : Fin 1 → IVec S16 32) a x).toNat < S32256.size a)
theorem k0_idx341_inb : ∀ (v1137 : IVec S16 32) (k0_hw341 : k0_chk341 v1137), ∀ a x, ((![v1137] : Fin 1 → IVec S16 32) a x).toNat < S32256.size a := fun v1137 k0_hw341 => k0_hw341
def k0_off35 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_386 : BitVec 32 := 576#32
  let v1138 : BitVec 32 := Scalar.muli arg15 c576_i32_386
  let c496_i32 : BitVec 32 := 496#32
  let v1139 : BitVec 32 := Scalar.addi v1138 c496_i32
  let v1140 : Index := Scalar.indexCast v1139
  ![v1140.toNat]

def k0_chk342 (v1147 : IVec S16 32) : Prop :=
  (∀ a x, ((![v1147] : Fin 1 → IVec S16 32) a x).toNat < S16.size a)
theorem k0_idx342_inb : ∀ (v1147 : IVec S16 32) (k0_hw342 : k0_chk342 v1147), ∀ a x, ((![v1147] : Fin 1 → IVec S16 32) a x).toNat < S16.size a := fun v1147 k0_hw342 => k0_hw342

def k0_chk343 (v1153 : IVec S16 32) : Prop :=
  (∀ a x, ((![v1153] : Fin 1 → IVec S16 32) a x).toNat < S16.size a)
theorem k0_idx343_inb : ∀ (v1153 : IVec S16 32) (k0_hw343 : k0_chk343 v1153), ∀ a x, ((![v1153] : Fin 1 → IVec S16 32) a x).toNat < S16.size a := fun v1153 k0_hw343 => k0_hw343

def k0_chk344 (v1156 : IVec S16 32) : Prop :=
  (∀ a x, ((![v1156] : Fin 1 → IVec S16 32) a x).toNat < S16.size a)
theorem k0_idx344_inb : ∀ (v1156 : IVec S16 32) (k0_hw344 : k0_chk344 v1156), ∀ a x, ((![v1156] : Fin 1 → IVec S16 32) a x).toNat < S16.size a := fun v1156 k0_hw344 => k0_hw344

def k0_chk345 (v1159 : IVec S16 32) : Prop :=
  (∀ a x, ((![v1159] : Fin 1 → IVec S16 32) a x).toNat < S16.size a)
theorem k0_idx345_inb : ∀ (v1159 : IVec S16 32) (k0_hw345 : k0_chk345 v1159), ∀ a x, ((![v1159] : Fin 1 → IVec S16 32) a x).toNat < S16.size a := fun v1159 k0_hw345 => k0_hw345

def k0_chk346 (v1150 : IVec S16 32) : Prop :=
  (∀ a x, ((![v1150] : Fin 1 → IVec S16 32) a x).toNat < S32256.size a)
theorem k0_idx346_inb : ∀ (v1150 : IVec S16 32) (k0_hw346 : k0_chk346 v1150), ∀ a x, ((![v1150] : Fin 1 → IVec S16 32) a x).toNat < S32256.size a := fun v1150 k0_hw346 => k0_hw346

def k0_chk347 (v1162 : IVec S16 32) : Prop :=
  (∀ a x, ((![v1162] : Fin 1 → IVec S16 32) a x).toNat < S32256.size a)
theorem k0_idx347_inb : ∀ (v1162 : IVec S16 32) (k0_hw347 : k0_chk347 v1162), ∀ a x, ((![v1162] : Fin 1 → IVec S16 32) a x).toNat < S32256.size a := fun v1162 k0_hw347 => k0_hw347

def k0_chk348 (v1164 : IVec S16 32) : Prop :=
  (∀ a x, ((![v1164] : Fin 1 → IVec S16 32) a x).toNat < S32256.size a)
theorem k0_idx348_inb : ∀ (v1164 : IVec S16 32) (k0_hw348 : k0_chk348 v1164), ∀ a x, ((![v1164] : Fin 1 → IVec S16 32) a x).toNat < S32256.size a := fun v1164 k0_hw348 => k0_hw348

def k0_chk349 (v1166 : IVec S16 32) : Prop :=
  (∀ a x, ((![v1166] : Fin 1 → IVec S16 32) a x).toNat < S32256.size a)
theorem k0_idx349_inb : ∀ (v1166 : IVec S16 32) (k0_hw349 : k0_chk349 v1166), ∀ a x, ((![v1166] : Fin 1 → IVec S16 32) a x).toNat < S32256.size a := fun v1166 k0_hw349 => k0_hw349

def k0_chk350 (v1168 : IVec S16 32) : Prop :=
  (∀ a x, ((![v1168] : Fin 1 → IVec S16 32) a x).toNat < S32256.size a)
theorem k0_idx350_inb : ∀ (v1168 : IVec S16 32) (k0_hw350 : k0_chk350 v1168), ∀ a x, ((![v1168] : Fin 1 → IVec S16 32) a x).toNat < S32256.size a := fun v1168 k0_hw350 => k0_hw350

def k0_chk351 (v1170 : IVec S16 32) : Prop :=
  (∀ a x, ((![v1170] : Fin 1 → IVec S16 32) a x).toNat < S32256.size a)
theorem k0_idx351_inb : ∀ (v1170 : IVec S16 32) (k0_hw351 : k0_chk351 v1170), ∀ a x, ((![v1170] : Fin 1 → IVec S16 32) a x).toNat < S32256.size a := fun v1170 k0_hw351 => k0_hw351

def k0_chk352 (v1173 : IVec S16 32) : Prop :=
  (∀ a x, ((![v1173] : Fin 1 → IVec S16 32) a x).toNat < S32256.size a)
theorem k0_idx352_inb : ∀ (v1173 : IVec S16 32) (k0_hw352 : k0_chk352 v1173), ∀ a x, ((![v1173] : Fin 1 → IVec S16 32) a x).toNat < S32256.size a := fun v1173 k0_hw352 => k0_hw352
def k0_off36 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_398 : BitVec 32 := 576#32
  let v1174 : BitVec 32 := Scalar.muli arg15 c576_i32_398
  let c512_i32 : BitVec 32 := 512#32
  let v1175 : BitVec 32 := Scalar.addi v1174 c512_i32
  let v1176 : Index := Scalar.indexCast v1175
  ![v1176.toNat]

def k0_chk353 (v1183 : IVec S16 32) : Prop :=
  (∀ a x, ((![v1183] : Fin 1 → IVec S16 32) a x).toNat < S16.size a)
theorem k0_idx353_inb : ∀ (v1183 : IVec S16 32) (k0_hw353 : k0_chk353 v1183), ∀ a x, ((![v1183] : Fin 1 → IVec S16 32) a x).toNat < S16.size a := fun v1183 k0_hw353 => k0_hw353

def k0_chk354 (v1189 : IVec S16 32) : Prop :=
  (∀ a x, ((![v1189] : Fin 1 → IVec S16 32) a x).toNat < S16.size a)
theorem k0_idx354_inb : ∀ (v1189 : IVec S16 32) (k0_hw354 : k0_chk354 v1189), ∀ a x, ((![v1189] : Fin 1 → IVec S16 32) a x).toNat < S16.size a := fun v1189 k0_hw354 => k0_hw354

def k0_chk355 (v1192 : IVec S16 32) : Prop :=
  (∀ a x, ((![v1192] : Fin 1 → IVec S16 32) a x).toNat < S16.size a)
theorem k0_idx355_inb : ∀ (v1192 : IVec S16 32) (k0_hw355 : k0_chk355 v1192), ∀ a x, ((![v1192] : Fin 1 → IVec S16 32) a x).toNat < S16.size a := fun v1192 k0_hw355 => k0_hw355

def k0_chk356 (v1195 : IVec S16 32) : Prop :=
  (∀ a x, ((![v1195] : Fin 1 → IVec S16 32) a x).toNat < S16.size a)
theorem k0_idx356_inb : ∀ (v1195 : IVec S16 32) (k0_hw356 : k0_chk356 v1195), ∀ a x, ((![v1195] : Fin 1 → IVec S16 32) a x).toNat < S16.size a := fun v1195 k0_hw356 => k0_hw356

def k0_chk357 (v1186 : IVec S16 32) : Prop :=
  (∀ a x, ((![v1186] : Fin 1 → IVec S16 32) a x).toNat < S32256.size a)
theorem k0_idx357_inb : ∀ (v1186 : IVec S16 32) (k0_hw357 : k0_chk357 v1186), ∀ a x, ((![v1186] : Fin 1 → IVec S16 32) a x).toNat < S32256.size a := fun v1186 k0_hw357 => k0_hw357

def k0_chk358 (v1198 : IVec S16 32) : Prop :=
  (∀ a x, ((![v1198] : Fin 1 → IVec S16 32) a x).toNat < S32256.size a)
theorem k0_idx358_inb : ∀ (v1198 : IVec S16 32) (k0_hw358 : k0_chk358 v1198), ∀ a x, ((![v1198] : Fin 1 → IVec S16 32) a x).toNat < S32256.size a := fun v1198 k0_hw358 => k0_hw358

def k0_chk359 (v1200 : IVec S16 32) : Prop :=
  (∀ a x, ((![v1200] : Fin 1 → IVec S16 32) a x).toNat < S32256.size a)
theorem k0_idx359_inb : ∀ (v1200 : IVec S16 32) (k0_hw359 : k0_chk359 v1200), ∀ a x, ((![v1200] : Fin 1 → IVec S16 32) a x).toNat < S32256.size a := fun v1200 k0_hw359 => k0_hw359

def k0_chk360 (v1202 : IVec S16 32) : Prop :=
  (∀ a x, ((![v1202] : Fin 1 → IVec S16 32) a x).toNat < S32256.size a)
theorem k0_idx360_inb : ∀ (v1202 : IVec S16 32) (k0_hw360 : k0_chk360 v1202), ∀ a x, ((![v1202] : Fin 1 → IVec S16 32) a x).toNat < S32256.size a := fun v1202 k0_hw360 => k0_hw360

def k0_chk361 (v1204 : IVec S16 32) : Prop :=
  (∀ a x, ((![v1204] : Fin 1 → IVec S16 32) a x).toNat < S32256.size a)
theorem k0_idx361_inb : ∀ (v1204 : IVec S16 32) (k0_hw361 : k0_chk361 v1204), ∀ a x, ((![v1204] : Fin 1 → IVec S16 32) a x).toNat < S32256.size a := fun v1204 k0_hw361 => k0_hw361

def k0_chk362 (v1206 : IVec S16 32) : Prop :=
  (∀ a x, ((![v1206] : Fin 1 → IVec S16 32) a x).toNat < S32256.size a)
theorem k0_idx362_inb : ∀ (v1206 : IVec S16 32) (k0_hw362 : k0_chk362 v1206), ∀ a x, ((![v1206] : Fin 1 → IVec S16 32) a x).toNat < S32256.size a := fun v1206 k0_hw362 => k0_hw362

def k0_chk363 (v1209 : IVec S16 32) : Prop :=
  (∀ a x, ((![v1209] : Fin 1 → IVec S16 32) a x).toNat < S32256.size a)
theorem k0_idx363_inb : ∀ (v1209 : IVec S16 32) (k0_hw363 : k0_chk363 v1209), ∀ a x, ((![v1209] : Fin 1 → IVec S16 32) a x).toNat < S32256.size a := fun v1209 k0_hw363 => k0_hw363
def k0_off37 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_410 : BitVec 32 := 576#32
  let v1210 : BitVec 32 := Scalar.muli arg15 c576_i32_410
  let c528_i32 : BitVec 32 := 528#32
  let v1211 : BitVec 32 := Scalar.addi v1210 c528_i32
  let v1212 : Index := Scalar.indexCast v1211
  ![v1212.toNat]

def k0_chk364 (v1219 : IVec S16 32) : Prop :=
  (∀ a x, ((![v1219] : Fin 1 → IVec S16 32) a x).toNat < S16.size a)
theorem k0_idx364_inb : ∀ (v1219 : IVec S16 32) (k0_hw364 : k0_chk364 v1219), ∀ a x, ((![v1219] : Fin 1 → IVec S16 32) a x).toNat < S16.size a := fun v1219 k0_hw364 => k0_hw364

def k0_chk365 (v1225 : IVec S16 32) : Prop :=
  (∀ a x, ((![v1225] : Fin 1 → IVec S16 32) a x).toNat < S16.size a)
theorem k0_idx365_inb : ∀ (v1225 : IVec S16 32) (k0_hw365 : k0_chk365 v1225), ∀ a x, ((![v1225] : Fin 1 → IVec S16 32) a x).toNat < S16.size a := fun v1225 k0_hw365 => k0_hw365

def k0_chk366 (v1228 : IVec S16 32) : Prop :=
  (∀ a x, ((![v1228] : Fin 1 → IVec S16 32) a x).toNat < S16.size a)
theorem k0_idx366_inb : ∀ (v1228 : IVec S16 32) (k0_hw366 : k0_chk366 v1228), ∀ a x, ((![v1228] : Fin 1 → IVec S16 32) a x).toNat < S16.size a := fun v1228 k0_hw366 => k0_hw366

def k0_chk367 (v1231 : IVec S16 32) : Prop :=
  (∀ a x, ((![v1231] : Fin 1 → IVec S16 32) a x).toNat < S16.size a)
theorem k0_idx367_inb : ∀ (v1231 : IVec S16 32) (k0_hw367 : k0_chk367 v1231), ∀ a x, ((![v1231] : Fin 1 → IVec S16 32) a x).toNat < S16.size a := fun v1231 k0_hw367 => k0_hw367

def k0_chk368 (v1222 : IVec S16 32) : Prop :=
  (∀ a x, ((![v1222] : Fin 1 → IVec S16 32) a x).toNat < S32256.size a)
theorem k0_idx368_inb : ∀ (v1222 : IVec S16 32) (k0_hw368 : k0_chk368 v1222), ∀ a x, ((![v1222] : Fin 1 → IVec S16 32) a x).toNat < S32256.size a := fun v1222 k0_hw368 => k0_hw368

def k0_chk369 (v1234 : IVec S16 32) : Prop :=
  (∀ a x, ((![v1234] : Fin 1 → IVec S16 32) a x).toNat < S32256.size a)
theorem k0_idx369_inb : ∀ (v1234 : IVec S16 32) (k0_hw369 : k0_chk369 v1234), ∀ a x, ((![v1234] : Fin 1 → IVec S16 32) a x).toNat < S32256.size a := fun v1234 k0_hw369 => k0_hw369

def k0_chk370 (v1236 : IVec S16 32) : Prop :=
  (∀ a x, ((![v1236] : Fin 1 → IVec S16 32) a x).toNat < S32256.size a)
theorem k0_idx370_inb : ∀ (v1236 : IVec S16 32) (k0_hw370 : k0_chk370 v1236), ∀ a x, ((![v1236] : Fin 1 → IVec S16 32) a x).toNat < S32256.size a := fun v1236 k0_hw370 => k0_hw370

def k0_chk371 (v1238 : IVec S16 32) : Prop :=
  (∀ a x, ((![v1238] : Fin 1 → IVec S16 32) a x).toNat < S32256.size a)
theorem k0_idx371_inb : ∀ (v1238 : IVec S16 32) (k0_hw371 : k0_chk371 v1238), ∀ a x, ((![v1238] : Fin 1 → IVec S16 32) a x).toNat < S32256.size a := fun v1238 k0_hw371 => k0_hw371

def k0_chk372 (v1240 : IVec S16 32) : Prop :=
  (∀ a x, ((![v1240] : Fin 1 → IVec S16 32) a x).toNat < S32256.size a)
theorem k0_idx372_inb : ∀ (v1240 : IVec S16 32) (k0_hw372 : k0_chk372 v1240), ∀ a x, ((![v1240] : Fin 1 → IVec S16 32) a x).toNat < S32256.size a := fun v1240 k0_hw372 => k0_hw372

def k0_chk373 (v1242 : IVec S16 32) : Prop :=
  (∀ a x, ((![v1242] : Fin 1 → IVec S16 32) a x).toNat < S32256.size a)
theorem k0_idx373_inb : ∀ (v1242 : IVec S16 32) (k0_hw373 : k0_chk373 v1242), ∀ a x, ((![v1242] : Fin 1 → IVec S16 32) a x).toNat < S32256.size a := fun v1242 k0_hw373 => k0_hw373

def k0_chk374 (v1245 : IVec S16 32) : Prop :=
  (∀ a x, ((![v1245] : Fin 1 → IVec S16 32) a x).toNat < S32256.size a)
theorem k0_idx374_inb : ∀ (v1245 : IVec S16 32) (k0_hw374 : k0_chk374 v1245), ∀ a x, ((![v1245] : Fin 1 → IVec S16 32) a x).toNat < S32256.size a := fun v1245 k0_hw374 => k0_hw374
def k0_off38 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_422 : BitVec 32 := 576#32
  let v1246 : BitVec 32 := Scalar.muli arg15 c576_i32_422
  let c544_i32 : BitVec 32 := 544#32
  let v1247 : BitVec 32 := Scalar.addi v1246 c544_i32
  let v1248 : Index := Scalar.indexCast v1247
  ![v1248.toNat]

def k0_chk375 (v1255 : IVec S16 32) : Prop :=
  (∀ a x, ((![v1255] : Fin 1 → IVec S16 32) a x).toNat < S16.size a)
theorem k0_idx375_inb : ∀ (v1255 : IVec S16 32) (k0_hw375 : k0_chk375 v1255), ∀ a x, ((![v1255] : Fin 1 → IVec S16 32) a x).toNat < S16.size a := fun v1255 k0_hw375 => k0_hw375

def k0_chk376 (v1261 : IVec S16 32) : Prop :=
  (∀ a x, ((![v1261] : Fin 1 → IVec S16 32) a x).toNat < S16.size a)
theorem k0_idx376_inb : ∀ (v1261 : IVec S16 32) (k0_hw376 : k0_chk376 v1261), ∀ a x, ((![v1261] : Fin 1 → IVec S16 32) a x).toNat < S16.size a := fun v1261 k0_hw376 => k0_hw376

def k0_chk377 (v1264 : IVec S16 32) : Prop :=
  (∀ a x, ((![v1264] : Fin 1 → IVec S16 32) a x).toNat < S16.size a)
theorem k0_idx377_inb : ∀ (v1264 : IVec S16 32) (k0_hw377 : k0_chk377 v1264), ∀ a x, ((![v1264] : Fin 1 → IVec S16 32) a x).toNat < S16.size a := fun v1264 k0_hw377 => k0_hw377

def k0_chk378 (v1267 : IVec S16 32) : Prop :=
  (∀ a x, ((![v1267] : Fin 1 → IVec S16 32) a x).toNat < S16.size a)
theorem k0_idx378_inb : ∀ (v1267 : IVec S16 32) (k0_hw378 : k0_chk378 v1267), ∀ a x, ((![v1267] : Fin 1 → IVec S16 32) a x).toNat < S16.size a := fun v1267 k0_hw378 => k0_hw378

def k0_chk379 (v1258 : IVec S16 32) : Prop :=
  (∀ a x, ((![v1258] : Fin 1 → IVec S16 32) a x).toNat < S32256.size a)
theorem k0_idx379_inb : ∀ (v1258 : IVec S16 32) (k0_hw379 : k0_chk379 v1258), ∀ a x, ((![v1258] : Fin 1 → IVec S16 32) a x).toNat < S32256.size a := fun v1258 k0_hw379 => k0_hw379

def k0_chk380 (v1270 : IVec S16 32) : Prop :=
  (∀ a x, ((![v1270] : Fin 1 → IVec S16 32) a x).toNat < S32256.size a)
theorem k0_idx380_inb : ∀ (v1270 : IVec S16 32) (k0_hw380 : k0_chk380 v1270), ∀ a x, ((![v1270] : Fin 1 → IVec S16 32) a x).toNat < S32256.size a := fun v1270 k0_hw380 => k0_hw380

def k0_chk381 (v1272 : IVec S16 32) : Prop :=
  (∀ a x, ((![v1272] : Fin 1 → IVec S16 32) a x).toNat < S32256.size a)
theorem k0_idx381_inb : ∀ (v1272 : IVec S16 32) (k0_hw381 : k0_chk381 v1272), ∀ a x, ((![v1272] : Fin 1 → IVec S16 32) a x).toNat < S32256.size a := fun v1272 k0_hw381 => k0_hw381

def k0_chk382 (v1274 : IVec S16 32) : Prop :=
  (∀ a x, ((![v1274] : Fin 1 → IVec S16 32) a x).toNat < S32256.size a)
theorem k0_idx382_inb : ∀ (v1274 : IVec S16 32) (k0_hw382 : k0_chk382 v1274), ∀ a x, ((![v1274] : Fin 1 → IVec S16 32) a x).toNat < S32256.size a := fun v1274 k0_hw382 => k0_hw382

def k0_chk383 (v1276 : IVec S16 32) : Prop :=
  (∀ a x, ((![v1276] : Fin 1 → IVec S16 32) a x).toNat < S32256.size a)
theorem k0_idx383_inb : ∀ (v1276 : IVec S16 32) (k0_hw383 : k0_chk383 v1276), ∀ a x, ((![v1276] : Fin 1 → IVec S16 32) a x).toNat < S32256.size a := fun v1276 k0_hw383 => k0_hw383

def k0_chk384 (v1278 : IVec S16 32) : Prop :=
  (∀ a x, ((![v1278] : Fin 1 → IVec S16 32) a x).toNat < S32256.size a)
theorem k0_idx384_inb : ∀ (v1278 : IVec S16 32) (k0_hw384 : k0_chk384 v1278), ∀ a x, ((![v1278] : Fin 1 → IVec S16 32) a x).toNat < S32256.size a := fun v1278 k0_hw384 => k0_hw384

def k0_chk385 (v1281 : IVec S16 32) : Prop :=
  (∀ a x, ((![v1281] : Fin 1 → IVec S16 32) a x).toNat < S32256.size a)
theorem k0_idx385_inb : ∀ (v1281 : IVec S16 32) (k0_hw385 : k0_chk385 v1281), ∀ a x, ((![v1281] : Fin 1 → IVec S16 32) a x).toNat < S32256.size a := fun v1281 k0_hw385 => k0_hw385
def k0_off39 (k0_t2 : Fin k0_t2_loop.trips) : Fin 1 → Nat :=
  let c0_i32_6 : BitVec 32 := 0#32
  let c1_i32_8 : BitVec 32 := 1#32
  let arg15 : BitVec 32 := Scf.iv c0_i32_6 c1_i32_8 k0_t2
  let c576_i32_434 : BitVec 32 := 576#32
  let v1282 : BitVec 32 := Scalar.muli arg15 c576_i32_434
  let c560_i32 : BitVec 32 := 560#32
  let v1283 : BitVec 32 := Scalar.addi v1282 c560_i32
  let v1284 : Index := Scalar.indexCast v1283
  ![v1284.toNat]

def k0_chk386 (v1291 : IVec S16 32) : Prop :=
  (∀ a x, ((![v1291] : Fin 1 → IVec S16 32) a x).toNat < S16.size a)
theorem k0_idx386_inb : ∀ (v1291 : IVec S16 32) (k0_hw386 : k0_chk386 v1291), ∀ a x, ((![v1291] : Fin 1 → IVec S16 32) a x).toNat < S16.size a := fun v1291 k0_hw386 => k0_hw386

def k0_chk387 (v1297 : IVec S16 32) : Prop :=
  (∀ a x, ((![v1297] : Fin 1 → IVec S16 32) a x).toNat < S16.size a)
theorem k0_idx387_inb : ∀ (v1297 : IVec S16 32) (k0_hw387 : k0_chk387 v1297), ∀ a x, ((![v1297] : Fin 1 → IVec S16 32) a x).toNat < S16.size a := fun v1297 k0_hw387 => k0_hw387

def k0_chk388 (v1300 : IVec S16 32) : Prop :=
  (∀ a x, ((![v1300] : Fin 1 → IVec S16 32) a x).toNat < S16.size a)
theorem k0_idx388_inb : ∀ (v1300 : IVec S16 32) (k0_hw388 : k0_chk388 v1300), ∀ a x, ((![v1300] : Fin 1 → IVec S16 32) a x).toNat < S16.size a := fun v1300 k0_hw388 => k0_hw388

def k0_chk389 (v1303 : IVec S16 32) : Prop :=
  (∀ a x, ((![v1303] : Fin 1 → IVec S16 32) a x).toNat < S16.size a)
theorem k0_idx389_inb : ∀ (v1303 : IVec S16 32) (k0_hw389 : k0_chk389 v1303), ∀ a x, ((![v1303] : Fin 1 → IVec S16 32) a x).toNat < S16.size a := fun v1303 k0_hw389 => k0_hw389

def k0_chk390 (v1294 : IVec S16 32) : Prop :=
  (∀ a x, ((![v1294] : Fin 1 → IVec S16 32) a x).toNat < S32256.size a)
theorem k0_idx390_inb : ∀ (v1294 : IVec S16 32) (k0_hw390 : k0_chk390 v1294), ∀ a x, ((![v1294] : Fin 1 → IVec S16 32) a x).toNat < S32256.size a := fun v1294 k0_hw390 => k0_hw390

def k0_chk391 (v1306 : IVec S16 32) : Prop :=
  (∀ a x, ((![v1306] : Fin 1 → IVec S16 32) a x).toNat < S32256.size a)
theorem k0_idx391_inb : ∀ (v1306 : IVec S16 32) (k0_hw391 : k0_chk391 v1306), ∀ a x, ((![v1306] : Fin 1 → IVec S16 32) a x).toNat < S32256.size a := fun v1306 k0_hw391 => k0_hw391

def k0_chk392 (v1308 : IVec S16 32) : Prop :=
  (∀ a x, ((![v1308] : Fin 1 → IVec S16 32) a x).toNat < S32256.size a)
theorem k0_idx392_inb : ∀ (v1308 : IVec S16 32) (k0_hw392 : k0_chk392 v1308), ∀ a x, ((![v1308] : Fin 1 → IVec S16 32) a x).toNat < S32256.size a := fun v1308 k0_hw392 => k0_hw392

def k0_chk393 (v1310 : IVec S16 32) : Prop :=
  (∀ a x, ((![v1310] : Fin 1 → IVec S16 32) a x).toNat < S32256.size a)
theorem k0_idx393_inb : ∀ (v1310 : IVec S16 32) (k0_hw393 : k0_chk393 v1310), ∀ a x, ((![v1310] : Fin 1 → IVec S16 32) a x).toNat < S32256.size a := fun v1310 k0_hw393 => k0_hw393

def k0_chk394 (v1312 : IVec S16 32) : Prop :=
  (∀ a x, ((![v1312] : Fin 1 → IVec S16 32) a x).toNat < S32256.size a)
theorem k0_idx394_inb : ∀ (v1312 : IVec S16 32) (k0_hw394 : k0_chk394 v1312), ∀ a x, ((![v1312] : Fin 1 → IVec S16 32) a x).toNat < S32256.size a := fun v1312 k0_hw394 => k0_hw394

def k0_chk395 (v1314 : IVec S16 32) : Prop :=
  (∀ a x, ((![v1314] : Fin 1 → IVec S16 32) a x).toNat < S32256.size a)
theorem k0_idx395_inb : ∀ (v1314 : IVec S16 32) (k0_hw395 : k0_chk395 v1314), ∀ a x, ((![v1314] : Fin 1 → IVec S16 32) a x).toNat < S32256.size a := fun v1314 k0_hw395 => k0_hw395

def k0_chk396 (v1317 : IVec S16 32) : Prop :=
  (∀ a x, ((![v1317] : Fin 1 → IVec S16 32) a x).toNat < S32256.size a)
theorem k0_idx396_inb : ∀ (v1317 : IVec S16 32) (k0_hw396 : k0_chk396 v1317), ∀ a x, ((![v1317] : Fin 1 → IVec S16 32) a x).toNat < S32256.size a := fun v1317 k0_hw396 => k0_hw396
def k0_off40 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_2 : BitVec 32 := 256#32
  let v8 : BitVec 32 := Scalar.muli v1 c256_i32_2
  let c0_i32_0 : BitVec 32 := 0#32
  let c1_i32 : BitVec 32 := 1#32
  let arg14 : BitVec 32 := Scf.iv c0_i32_0 c1_i32 k0_t1
  let c8_i32 : BitVec 32 := 8#32
  let v9 : BitVec 32 := Scalar.muli arg14 c8_i32
  let v10 : BitVec 32 := Scalar.addi v8 v9
  let c576_i32_10 : BitVec 32 := 576#32
  let v15 : BitVec 32 := Scalar.muli v10 c576_i32_10
  let c7_i32_11 : BitVec 32 := 7#32
  let v16 : BitVec 32 := Scalar.muli v15 c7_i32_11
  ![v16.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2x24x24 : Shape := ⟨4, ![4096, 2, 24, 24]⟩
abbrev S4096x2 : Shape := ⟨2, ![4096, 2]⟩
abbrev S4x4 : Shape := ⟨2, ![4, 4]⟩
abbrev S_ : Shape := ⟨0, ![]⟩
abbrev S4096x2x24x24x1 : Shape := ⟨5, ![4096, 2, 24, 24, 1]⟩
abbrev S1 : Shape := ⟨1, ![1]⟩
abbrev S1x1x1x1x1 : Shape := ⟨5, ![1, 1, 1, 1, 1]⟩
abbrev S4096x2x24x24x4 : Shape := ⟨5, ![4096, 2, 24, 24, 4]⟩
abbrev S4096x2x1x1x1 : Shape := ⟨5, ![4096, 2, 1, 1, 1]⟩
abbrev S1x4096x1x2x1x1x1x1x1x1 : Shape := ⟨10, ![1, 4096, 1, 2, 1, 1, 1, 1, 1, 1]⟩
abbrev S1x4096x1x2x24x1x24x1x1x1 : Shape := ⟨10, ![1, 4096, 1, 2, 24, 1, 24, 1, 1, 1]⟩
abbrev S4096x2x24x24x7 : Shape := ⟨5, ![4096, 2, 24, 24, 7]⟩

abbrev nBuf : Space → Nat
  | .hbm => 36
  | .vmem => 0
  | .smem => 0
  | _ => 0

abbrev bufTy : (tb : Table) → Fin (tcTables nBuf tb) → BufTy
  | .hbm, ⟨0, _⟩ => ⟨S4096x2x24x24, .i32⟩
  | .hbm, ⟨1, _⟩ => ⟨S4096x2x24x24, .f32⟩
  | .hbm, ⟨2, _⟩ => ⟨S4096x2x24x24, .i32⟩
  | .hbm, ⟨3, _⟩ => ⟨S4096x2, .f32⟩
  | .hbm, ⟨4, _⟩ => ⟨S4x4, .f32⟩
  | .hbm, ⟨5, _⟩ => ⟨S_, .i32⟩
  | .hbm, ⟨6, _⟩ => ⟨S4096x2x24x24, .i32⟩
  | .hbm, ⟨7, _⟩ => ⟨S4096x2x24x24, .i1⟩
  | .hbm, ⟨8, _⟩ => ⟨S_, .i32⟩
  | .hbm, ⟨9, _⟩ => ⟨S4096x2x24x24, .i32⟩
  | .hbm, ⟨10, _⟩ => ⟨S4096x2x24x24, .i32⟩
  | .hbm, ⟨11, _⟩ => ⟨S4096x2x24x24, .i32⟩
  | .hbm, ⟨12, _⟩ => ⟨S4096x2x24x24x1, .i32⟩
  | .hbm, ⟨13, _⟩ => ⟨S1, .i32⟩
  | .hbm, ⟨14, _⟩ => ⟨S_, .i32⟩
  | .hbm, ⟨15, _⟩ => ⟨S4096x2x24x24x1, .i32⟩
  | .hbm, ⟨16, _⟩ => ⟨S4096x2x24x24x1, .i1⟩
  | .hbm, ⟨17, _⟩ => ⟨S1x1x1x1x1, .i32⟩
  | .hbm, ⟨18, _⟩ => ⟨S4096x2x24x24x1, .i32⟩
  | .hbm, ⟨19, _⟩ => ⟨S4096x2x24x24x1, .i1⟩
  | .hbm, ⟨20, _⟩ => ⟨S4096x2x24x24x1, .i1⟩
  | .hbm, ⟨21, _⟩ => ⟨S_, .i1⟩
  | .hbm, ⟨22, _⟩ => ⟨S4096x2x24x24, .i1⟩
  | .hbm, ⟨23, _⟩ => ⟨S4096x2x24x24x4, .f32⟩
  | .hbm, ⟨24, _⟩ => ⟨S4096x2x24x24x4, .i1⟩
  | .hbm, ⟨25, _⟩ => ⟨S_, .f32⟩
  | .hbm, ⟨26, _⟩ => ⟨S4096x2x24x24x4, .f32⟩
  | .hbm, ⟨27, _⟩ => ⟨S4096x2x24x24x4, .f32⟩
  | .hbm, ⟨28, _⟩ => ⟨S4096x2x24x24x1, .f32⟩
  | .hbm, ⟨29, _⟩ => ⟨S4096x2x24x24x1, .i32⟩
  | .hbm, ⟨30, _⟩ => ⟨S4096x2x24x24x1, .f32⟩
  | .hbm, ⟨31, _⟩ => ⟨S4096x2x1x1x1, .f32⟩
  | .hbm, ⟨32, _⟩ => ⟨S1x4096x1x2x1x1x1x1x1x1, .f32⟩
  | .hbm, ⟨33, _⟩ => ⟨S1x4096x1x2x24x1x24x1x1x1, .f32⟩
  | .hbm, ⟨34, _⟩ => ⟨S4096x2x24x24x1, .f32⟩
  | .hbm, ⟨35, _⟩ => ⟨S4096x2x24x24x7, .f32⟩
  | _, _ => ⟨S4096x2x24x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]
-- ==== Proof.Groups.lean ====
/-
  One environment's part of a chunk, as a list of groups: the kernel prints its thirty-six groups of sixteen positions one after
  another, and each is the same program `group` at another number. `part41_eq` says that the printed body of the inner loop is the
  load of the reward vector followed by `group` at 0, …, 35; everything after it is proved of `group` once.
-/
module

public import proofs.«01_k».proof.Kernel
public import proofs.«01_k».proof.Proof.Gen.Kernel

@[expose] public section

noncomputable section

namespace Cert.Proof.KernelRun

open Cert.Kernel Cert.Kernel.Gen
open Idealize.ShloMosaic Idealize.SL.Sem

variable {F : FTy → Type} [FloatOps F]

/-- The first position, in the chunk, of group `g` of the chunk's environment `t2`, as the kernel computes it. -/
abbrev pos (t2 : Fin k0_t2_loop.trips) (g : ℕ) : BitVec 32 := Scalar.addi (Scalar.muli (Scf.iv 0#32 1#32 t2) 576#32) (BitVec.ofNat 32 (16 * g))

/-- The offsets of the group's loads from the chunk's scratches. -/
abbrev goff (t2 : Fin k0_t2_loop.trips) (g : ℕ) : Fin 1 → ℕ := ![(Scalar.indexCast (pos t2 g)).toNat]

/-- The group's sixteen positions lie inside the chunk. -/
theorem goff_inb (t2 : Fin k0_t2_loop.trips) (g : Fin 36) : ∀ a, (goff t2 g) a + S16.size a ≤ S4608.size a := by
  revert t2 g; decide +kernel

/-- Every lane names an entry of the table, -/
abbrev InTab (v : IVec S16 32) : Prop := ∀ a x, ((![v] : Fin 1 → IVec S16 32) a x).toNat < S16.size a
/-- every lane names an element of the chunk's output. -/
abbrev InOut (v : IVec S16 32) : Prop := ∀ a x, ((![v] : Fin 1 → IVec S16 32) a x).toNat < S32256.size a

variable {i : grid0.Coords}

/-- Programs of the vector subcore at coordinates `i`. -/
abbrev TP (F : FTy → Type) (i : grid0.Coords) (α : Type) : Type 1 := Prog (TpuEff nD τ sig (Elt F) Λ₀ (.scVector ((i 0).castLE hcore0) ((i 1).castLE hsub0))) α

/-- Column `j` of the table at the lanes' rows. -/
def gather (arg12 : Memref sig .scVector .vmem S16 .f32) (v : IVec S16 32) (dec : Decidable (InTab v)) : TP F i (Vec F S16 .f32) := do
  have h : InTab v := (← Prog.lift (TpuEff.assume (InTab v) dec)).down
  SparseCore.vectorLoadIdx arg12 ![v] h (View.loads_vmem h_S16)

/-- One checked indexed store of sixteen lanes. -/
def put (arg13 : Memref sig .scVector .vmem S32256 .f32) (w : IVec S16 32) (v : Vec F S16 .f32) : TP F i PUnit := do
  have h : InOut w := (← Prog.lift (TpuEff.assume (InOut w) (k0_chk5.dec w))).down
  SparseCore.vectorStoreIdx arg13 ![w] v (fun _ => 1#1) false h (View.stores_vmem_bits_univ h_S32256 rfl)

/-- The seven stores of a group: column `j` of its sixteen rows at the offsets `oi` plus `j`. -/
def stores (arg13 : Memref sig .scVector .vmem S32256 .f32) (oi : IVec S16 32) (h : InOut oi) (e0 e1 e2 e3 e4 e5 e6 : Vec F S16 .f32) : TP F i PUnit := do
  SparseCore.vectorStoreIdx arg13 ![oi] e0 (fun _ => 1#1) false h (View.stores_vmem_bits_univ h_S32256 rfl)
  put arg13 (addi oi (broadcast S16 1#32)) e1
  put arg13 (addi oi (broadcast S16 2#32)) e2
  put arg13 (addi oi (broadcast S16 3#32)) e3
  put arg13 (addi oi (broadcast S16 4#32)) e4
  put arg13 (addi oi (broadcast S16 5#32)) e5
  put arg13 (addi oi (broadcast S16 6#32)) e6

/-- One group of sixteen positions: the loads of their tile types, unit counts and relic flags, the four gathers of the table's
    columns, and the seven indexed stores. -/
def group (arg8 : Memref sig .scVector .vmem S4608 .i32) (arg9 : Memref sig .scVector .vmem S4608 .f32) (arg10 : Memref sig .scVector .vmem S4608 .i32)
    (arg12 : Memref sig .scVector .vmem S16 .f32) (arg13 : Memref sig .scVector .vmem S32256 .f32) (v6 : IVec S16 32) (t2 : Fin k0_t2_loop.trips)
    (rv : Vec F S16 .f32) (g : Fin 36) : TP F i PUnit := do
  let tt : Vec F S16 .i32 ← Prog.lift (.load arg8 (Rect.unit (s := S4608) (goff t2 g) S16.size (goff_inb t2 g)).toLoadRect (View.loadsAt_vmem h_S16))
  let uc : Vec F S16 .f32 ← Prog.lift (.load arg9 (Rect.unit (s := S4608) (goff t2 g) S16.size (goff_inb t2 g)).toLoadRect (View.loadsAt_vmem h_S16))
  let rm : Vec F S16 .i32 ← Prog.lift (.load arg10 (Rect.unit (s := S4608) (goff t2 g) S16.size (goff_inb t2 g)).toLoadRect (View.loadsAt_vmem h_S16))
  have ti : IVec S16 32 := muli tt (broadcast S16 4#32)
  have h0 : InTab ti := (← Prog.lift (TpuEff.assume (InTab ti) (k0_chk1.dec ti))).down
  have oi : IVec S16 32 := addi v6 (broadcast S16 (Scalar.muli (pos t2 g) 7#32))
  have k0 : InOut oi := (← Prog.lift (TpuEff.assume (InOut oi) (k0_chk5.dec oi))).down
  let e0 : Vec F S16 .f32 ← SparseCore.vectorLoadIdx arg12 ![ti] h0 (View.loads_vmem h_S16)
  let e1 : Vec F S16 .f32 ← gather arg12 (addi ti (broadcast S16 1#32)) (k0_chk1.dec _)
  let e2 : Vec F S16 .f32 ← gather arg12 (addi ti (broadcast S16 2#32)) (k0_chk1.dec _)
  let e3 : Vec F S16 .f32 ← gather arg12 (addi ti (broadcast S16 3#32)) (k0_chk1.dec _)
  stores arg13 oi k0 e0 e1 e2 e3 uc (sitofp .f32 rm) rv

/-- A run of groups, in order. -/
def groupsFrom (arg8 : Memref sig .scVector .vmem S4608 .i32) (arg9 : Memref sig .scVector .vmem S4608 .f32) (arg10 : Memref sig .scVector .vmem S4608 .i32)
    (arg12 : Memref sig .scVector .vmem S16 .f32) (arg13 : Memref sig .scVector .vmem S32256 .f32) (v6 : IVec S16 32) (t2 : Fin k0_t2_loop.trips)
    (rv : Vec F S16 .f32) : (l : List (Fin 36)) → TP F i PUnit
  | [] => pure ⟨⟩
  | g :: l => do
    group arg8 arg9 arg10 arg12 arg13 v6 t2 rv g
    groupsFrom arg8 arg9 arg10 arg12 arg13 v6 t2 rv l

/-- The thirty-six groups. -/
abbrev allGroups : List (Fin 36) := [0, 1, 2, 3, 4, 5, 6, 7, 8, 9, 10, 11, 12, 13, 14, 15, 16, 17, 18, 19, 20, 21, 22, 23, 24, 25, 26, 27, 28, 29, 30, 31, 32, 33, 34, 35]

/-- One environment: its reward's vector, then its groups. -/
def envBody (arg8 : Memref sig .scVector .vmem S4608 .i32) (arg9 : Memref sig .scVector .vmem S4608 .f32) (arg10 : Memref sig .scVector .vmem S4608 .i32)
    (arg11 : Memref sig .scVector .vmem S4096 .f32)
    (arg12 : Memref sig .scVector .vmem S16 .f32) (arg13 : Memref sig .scVector .vmem S32256 .f32) (v6 : IVec S16 32) (t1 : Fin k0_t1_loop.trips) (t2 : Fin k0_t2_loop.trips) : TP F i PUnit := do
  let rv : Vec F S16 .f32 ← Prog.lift (.load arg11 (Rect.unit (s := S4096) (k0_off3 t1 t2) S16.size (k0_off3_inb t1 t2)).toLoadRect (View.loadsAt_vmem h_S16))
  groupsFrom arg8 arg9 arg10 arg12 arg13 v6 t2 rv allGroups

/-- Two programs with the same head and equal continuations are equal. -/
theorem op_congr {E : Type → Type} {α β : Type} {e : E β} {k k' : β → Prog E α} (h : ∀ x, k x = k' x) : Prog.op e k = Prog.op e k' := congrArg (Prog.op e) (funext h)

set_option maxHeartbeats 0 in
/-- The printed body of the inner loop is the environment's groups in order. -/
theorem part41_eq (arg2 : Memref sig .scVector .hbm S4718592 .i32) (harg2 : arg2.IsWhole) (arg3 : Memref sig .scVector .hbm S4718592 .f32) (harg3 : arg3.IsWhole) (arg4 : Memref sig .scVector .hbm S4718592 .i32) (harg4 : arg4.IsWhole) (arg5 : Memref sig .scVector .hbm S131072 .f32) (harg5 : arg5.IsWhole) (arg6 : Memref sig .scVector .hbm S16 .f32) (harg6 : arg6.IsWhole) (arg7 : Memref sig .scVector .hbm S33030144 .f32) (harg7 : arg7.IsWhole) (arg8 : Memref sig .scVector .vmem S4608 .i32) (harg8 : arg8.IsWhole) (arg9 : Memref sig .scVector .vmem S4608 .f32) (harg9 : arg9.IsWhole) (arg10 : Memref sig .scVector .vmem S4608 .i32) (harg10 : arg10.IsWhole) (arg11 : Memref sig .scVector .vmem S4096 .f32) (harg11 : arg11.IsWhole) (arg12 : Memref sig .scVector .vmem S16 .f32) (harg12 : arg12.IsWhole) (arg13 : Memref sig .scVector .vmem S32256 .f32) (harg13 : arg13.IsWhole) (v8_r0 : DmaSems sig S_) (v8_r1 : DmaSems sig S_) (v17_r2 : DmaSems sig S_) (v17_r3 : DmaSems sig S_) (v17_r4 : DmaSems sig S_) (v17_r5 : DmaSems sig S_) (v6 : IVec S16 32) (t1 : Fin k0_t1_loop.trips) (arg14 : BitVec 32) (t2 : Fin k0_t2_loop.trips) :
    k0_part41 (F := F) i arg2 harg2 arg3 harg3 arg4 harg4 arg5 harg5 arg6 harg6 arg7 harg7 arg8 harg8 arg9 harg9 arg10 harg10 arg11 harg11 arg12 harg12 arg13 harg13 v8_r0 v8_r1 v17_r2 v17_r3 v17_r4 v17_r5 v6 t1 arg14 0#32 1#32 t2
     = envBody arg8 arg9 arg10 arg11 arg12 arg13 v6 t1 t2 := by
  repeat refine op_congr fun _ => ?_
  rfl

end Cert.Proof.KernelRun

end
-- ==== Proof.Cells.lean ====
/-
  The value the kernel computes, as a plain function of positions, and what one indexed store of sixteen lanes does to a
  buffer that is being filled in order.

  A position is one cell of one environment's board, and an output row is the seven numbers of a position: the four entries
  of its tile type's table row, the unit count, the relic flag as a number, and the environment's reward. Everything is
  stated over total functions of natural numbers, so that no definition carries a bound.
-/
module

public import Idealize.ShloMosaic.PureOps.ShapeOps
public import Idealize.ShloMosaic.PureOps
public import Idealize.ShloMosaic.Lib.SparseCore.Ops

@[expose] public section

noncomputable section

namespace Cert.Proof.Cells

open Idealize.ShloMosaic

/-- A vector of `n` elements. -/
abbrev V1 (n : ℕ) : Shape := ⟨1, ![n]⟩

/-- The index `k` (reduced below the extent) of a vector. -/
abbrev ix {n : ℕ} [NeZero n] (k : ℕ) : (V1 n).Idx :=
  Shape.ofLane (d := ![n]) ⟨k % n, Nat.mod_lt _ (Nat.pos_of_ne_zero (NeZero.ne n))⟩

/-- An index of a vector is the one its only coordinate names. -/
theorem ix_eq {n : ℕ} [NeZero n] (x : (V1 n).Idx) {k : ℕ} (h : (x 0).val = k) : x = ix k := by
  funext a
  obtain rfl : a = 0 := Fin.eq_zero a
  have hx : (x 0).val < n := (x 0).isLt
  exact Fin.ext (by show (x 0).val = k % n; rw [← h, Nat.mod_eq_of_lt hx])

/-- Column `j` of the output row of position `p`: `tab` is the flattened table of rows of four, `t`, `u` and `r` the tile
    types, unit counts and relic flags by position, `w` the reward that belongs to the position. -/
def cell {F : FTy → Type} [FloatOps F] (tab : (V1 16).Idx → F .f32) (t : ℕ → BitVec 32) (u : ℕ → F .f32) (r : ℕ → BitVec 32)
    (w : ℕ → F .f32) (p j : ℕ) : F .f32 :=
  if j < 4 then tab (ix (4 * (t p).toNat + j)) else if j = 4 then u p else if j = 5 then FloatOps.sitofp .f32 (r p) else w p

/-- The flat output: element `k` is column `k % 7` of position `k / 7`. -/
abbrev flat {F : FTy → Type} [FloatOps F] (tab : (V1 16).Idx → F .f32) (t : ℕ → BitVec 32) (u : ℕ → F .f32) (r : ℕ → BitVec 32)
    (w : ℕ → F .f32) (k : ℕ) : F .f32 := cell tab t u r w (k / 7) (k % 7)

/-- An element after a run of lane stores: when every lane that hits it stores `y`, and it held `y` or some lane hits it,
    it holds `y`. -/
theorem fold_store {α I L : Type} (hit : L → I → Prop) [∀ l i, Decidable (hit l i)] (v : L → α) (i : I) (y : α) :
    ∀ (ls : List L) (f : I → α), (∀ l ∈ ls, hit l i → v l = y) → (f i = y ∨ ∃ l ∈ ls, hit l i) →
      ls.foldl (fun g l => fun j => if hit l j then v l else g j) f i = y
  | [], f, _, h => by rcases h with h | ⟨l, hl, _⟩; exacts [h, nomatch hl]
  | l :: ls, f, hv, h => by
    rw [List.foldl_cons]
    refine fold_store hit v i y ls _ (fun l' hl' => hv l' (List.mem_cons_of_mem _ hl')) ?_
    by_cases hh : hit l i
    · exact .inl (by rw [if_pos hh]; exact hv l List.mem_cons_self hh)
    · rw [if_neg hh]
      rcases h with h | ⟨l', hl', hh'⟩
      · exact .inl h
      · rcases List.mem_cons.mp hl' with rfl | hl'
        · exact absurd hh' hh
        · exact .inr ⟨l', hl', hh'⟩

/-- The unmasked indexed store read at one element. -/
theorem storeIdx_apply {F : FTy → Type} [FloatOps F] {n : ℕ} {e : EltTy} (f : Vec F (V1 n) e) (w : IVec (V1 16) 32) (v : Vec F (V1 16) e)
    (h : ∀ a x, ((![w] : Fin 1 → IVec (V1 16) 32) a x).toNat < (V1 n).size a) (i : (V1 n).Idx) (y : Elt F e)
    (hv : ∀ x, (i 0).val = (w x).toNat → v x = y) (hh : f i = y ∨ ∃ x, (i 0).val = (w x).toNat) :
    storeIdx f ![w] v (fun _ => 1#1) false h i = y := by
  have key : ∀ k : Fin 16, (∀ a, (i a).val = (idxAt (![w] : Fin 1 → IVec (V1 16) 32) h (Shape.ofLane (d := ![16]) k) a).val)
      ↔ (i 0).val = (w (Shape.ofLane (d := ![16]) k)).toNat := fun k =>
    ⟨fun hk => hk 0, fun hk a => by obtain rfl : a = 0 := Fin.eq_zero a; exact hk⟩
  refine fold_store (L := Fin 16) (fun k (j : (V1 n).Idx) => ∀ a, (j a).val = (idxAt (![w] : Fin 1 → IVec (V1 16) 32) h (Shape.ofLane (d := ![16]) k) a).val)
    (fun k => v (Shape.ofLane (d := ![16]) k)) i y (List.finRange 16) f (fun k _ hk => hv _ ((key k).mp hk)) ?_
  rcases hh with hh | ⟨x, hx⟩
  · exact .inl hh
  · refine .inr ⟨x 0, List.mem_finRange _, (key _).mpr ?_⟩
    rw [hx]
    congr 2
    funext a
    obtain rfl : a = 0 := Fin.eq_zero a
    rfl

/-- The elements written so far hold their values: all of the first `n` positions' rows, and the first `j` columns of the
    next sixteen positions' rows. -/
def Part {α : Type} {N : ℕ} (V : ℕ → α) (n j : ℕ) (f : (V1 N).Idx → α) : Prop :=
  ∀ i : (V1 N).Idx, ((i 0).val < 7 * n ∨ ((i 0).val < 7 * (n + 16) ∧ (i 0).val % 7 < j)) → f i = V (i 0).val

/-- All seven columns of sixteen more positions are sixteen more positions. -/
theorem Part.next {α : Type} {N : ℕ} {V : ℕ → α} {n : ℕ} {f : (V1 N).Idx → α} (h : Part V n 7 f) : Part V (n + 16) 0 f :=
  fun i hi => h i (by omega)

/-- One column of sixteen positions stored. -/
theorem Part.store {F : FTy → Type} [FloatOps F] {N : ℕ} {e : EltTy} {V : ℕ → Elt F e} {n j : ℕ} {f : Vec F (V1 N) e} (hf : Part V n j f) (hj : j < 7)
    (w : IVec (V1 16) 32) (v : Vec F (V1 16) e) (h : ∀ a x, ((![w] : Fin 1 → IVec (V1 16) 32) a x).toNat < (V1 N).size a)
    (hw : ∀ x, (w x).toNat = 7 * (n + (x 0).val) + j) (hv : ∀ x : (V1 16).Idx, v x = V (7 * (n + (x 0).val) + j)) :
    Part V n (j + 1) (storeIdx f ![w] v (fun _ => 1#1) false h) := by
  intro i hi
  refine storeIdx_apply f w v h i _ (fun x hx => ?_) ?_
  · rw [hv, hx, hw]
  · by_cases ho : (i 0).val < 7 * n ∨ ((i 0).val < 7 * (n + 16) ∧ (i 0).val % 7 < j)
    · exact .inl (hf i ho)
    · refine .inr ⟨ix ((i 0).val / 7 - n), ?_⟩
      rw [hw]
      show (i 0).val = 7 * (n + ((i 0).val / 7 - n) % 16) + j
      omega

end Cert.Proof.Cells
-- ==== Proof.GroupRun.lean ====
/-
  One group's run with its value: sixteen more positions of the chunk's output hold their rows.
-/
module

public import proofs.«01_k».proof.Proof.Groups
public import proofs.«01_k».proof.Proof.Cells
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KernelRun

open Cert.Kernel Cert.Kernel.Gen Cert.Proof.Cells
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The handshakes' rounds and the transfers' counters. -/
abbrev UH : Type := URounds (GSem nD τ sig) ℕ
abbrev UU : Type := UH × Counters
local notation "𝕄" => MT nD τ sig (HIx 1) (Elt F) ℕ UU ℕ

abbrev 𝒱₀ : Variants := Variants.none

/-- The vector subcore at coordinates `L` of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's scratches: a chunk's tile types, unit counts and relic flags, the task's rewards, the table, a chunk's output. -/
abbrev sT : Memref sig .scVector .vmem S4608 .i32 := Memref.whole cc0_scratch0
abbrev sU : Memref sig .scVector .vmem S4608 .f32 := Memref.whole cc0_scratch1
abbrev sR : Memref sig .scVector .vmem S4608 .i32 := Memref.whole cc0_scratch2
abbrev sW : Memref sig .scVector .vmem S4096 .f32 := Memref.whole cc0_scratch3
abbrev sTab : Memref sig .scVector .vmem S16 .f32 := Memref.whole cc0_scratch4
abbrev sOut : Memref sig .scVector .vmem S32256 .f32 := Memref.whole cc0_scratch5

variable (d : Dev nD) (L : grid0.Coords)

/-- The output scratch held by its own name and through the whole rectangle an indexed store goes through. -/
theorem pts_sOut (f : Vec F S32256 .f32) :
    (((sOut.access (.whole S32256)).loc (thr d L) ↦[(sOut.access (.whole S32256)).set]{fullShare} f : sProp 𝕄))
      = (thr d L).loc cc0_scratch5 ↦{fullShare} f := by
  rw [show (sOut.access (.whole S32256)).set = Finset.univ from Memref.set_access_whole cc0_scratch5]

/-- The contents an indexed store leaves. -/
theorem write_sOut (f : Vec F S32256 .f32) (w : IVec S16 32) (v : Vec F S16 .f32) (h : InOut w) :
    ((sOut.access (.whole S32256)).write (Elt F) f (storeIdx ((sOut.access (.whole S32256)).read (Elt F) f) ![w] v (fun _ => 1#1) false h) Finset.univ)
      = storeIdx (s := S32256) (e := .f32) f ![w] v (fun _ => 1#1) false h := by
  rw [show (sOut.access (.whole S32256)).read (Elt F) f = f from Memref.read_access_whole (Elt F) cc0_scratch5 f]
  exact Memref.write_access_whole_univ (Elt F) cc0_scratch5 f _

/-- A store of sixteen lanes of column `j`. -/
theorem wp_store16 {Q : PUnit → sProp 𝕄} {f : Vec F S32256 .f32} {w : IVec S16 32} {v : Vec F S16 .f32} {V' : ℕ → F .f32} {n j : ℕ}
    (h : InOut w) (hf : Part V' n j f) (hj : j < 7)
    (hw : ∀ x, (w x).toNat = 7 * (n + (x 0).val) + j) (hv : ∀ x : S16.Idx, v x = V' (7 * (n + (x 0).val) + j)) :
    ((thr d L).loc cc0_scratch5 ↦{fullShare} f : sProp 𝕄)
      ⊢ iprop((∀ f' : Vec F S32256 .f32, ⌜Part V' n (j + 1) f'⌝ -∗ ((thr d L).loc cc0_scratch5 ↦{fullShare} f') -∗ Q ⟨⟩)
        -∗ wp frame (wpE (defs₀ (F := F)) 𝒱₀ (thr d L) none) Set.univ (SparseCore.vectorStoreIdx sOut ![w] v (fun _ => 1#1) false h (View.stores_vmem_bits_univ h_S32256 rfl)) Q) := by
  iintro H Hk
  rw [show (SparseCore.vectorStoreIdx sOut ![w] v (fun _ => 1#1) false h (View.stores_vmem_bits_univ h_S32256 rfl) : TP F L PUnit)
    = (SparseCore.vectorStoreIdx sOut ![w] v (fun _ => 1#1) false h (View.stores_vmem_bits_univ h_S32256 rfl) : TP F L PUnit) >>= Prog.ret from rfl]
  iapply (SparseCore.wp_vectorStoreIdx 𝒱₀ (thr d L) none Set.univ (base := sOut) (idxs := ![w]) (f := f)) $$ [H]
  · iapply (Entails.of_eq (pts_sOut d L f).symm); iexact H
  iintro H
  rw [write_sOut]
  ihave H := (Entails.of_eq (pts_sOut d L _)) $$ H
  rw [wp_ret]
  imodintro
  iapply Hk $$ %_ [] H
  ipureintro
  exact hf.store hj w v h hw hv

/-- Offsets of a column of sixteen rows lie inside the chunk's output. -/
theorem inOut {w : IVec S16 32} {n j : ℕ} (hj : j < 7) (hn : n + 16 ≤ 4608) (hw : ∀ x, (w x).toNat = 7 * (n + (x 0).val) + j) : InOut w := by
  intro a x
  obtain rfl : a = 0 := Fin.eq_zero a
  show (w x).toNat < 32256
  have hx : (x 0).val < 16 := (x 0).isLt
  rw [hw]; omega

/-- A checked store of sixteen lanes of column `j`. -/
theorem wp_put {Q : PUnit → sProp 𝕄} {f : Vec F S32256 .f32} {w : IVec S16 32} {v : Vec F S16 .f32} {V' : ℕ → F .f32} {n j : ℕ}
    (hn : n + 16 ≤ 4608) (hf : Part V' n j f) (hj : j < 7)
    (hw : ∀ x, (w x).toNat = 7 * (n + (x 0).val) + j) (hv : ∀ x : S16.Idx, v x = V' (7 * (n + (x 0).val) + j)) :
    ((thr d L).loc cc0_scratch5 ↦{fullShare} f : sProp 𝕄)
      ⊢ iprop((∀ f' : Vec F S32256 .f32, ⌜Part V' n (j + 1) f'⌝ -∗ ((thr d L).loc cc0_scratch5 ↦{fullShare} f') -∗ Q ⟨⟩)
        -∗ wp frame (wpE (defs₀ (F := F)) 𝒱₀ (thr d L) none) Set.univ (put (i := L) sOut w v) Q) := by
  unfold put
  rw [wp_bind]
  iintro H Hk
  iapply (wp_assume 𝒱₀ (thr d L) none Set.univ (inOut hj hn hw))
  rw [wp_ret]
  imodintro
  iapply (wp_store16 d L (inOut hj hn hw) hf hj hw hv) $$ H
  iexact Hk

/-- A small constant added to a lane that stays in range. -/
theorem add_toNat (w : IVec S16 32) (j : ℕ) (x : S16.Idx) {k : ℕ} (hw : (w x).toNat = k) (h : k + j < 2 ^ 32) :
    (addi w (broadcast S16 (BitVec.ofNat 32 j)) x).toNat = k + j := by
  show (w x + BitVec.ofNat 32 j).toNat = _
  rw [BitVec.toNat_add, BitVec.toNat_ofNat]
  omega

/-- The seven stores of a group fill its sixteen rows. -/
theorem wp_stores {Q : PUnit → sProp 𝕄} {f : Vec F S32256 .f32} {oi : IVec S16 32} {h : InOut oi} {e0 e1 e2 e3 e4 e5 e6 : Vec F S16 .f32}
    {V' : ℕ → F .f32} {n : ℕ} (hn : n + 16 ≤ 4608) (hoi : ∀ x, (oi x).toNat = 7 * (n + (x 0).val)) (hf : Part V' n 0 f)
    (h0 : ∀ x : S16.Idx, e0 x = V' (7 * (n + (x 0).val) + 0)) (h1 : ∀ x : S16.Idx, e1 x = V' (7 * (n + (x 0).val) + 1))
    (h2 : ∀ x : S16.Idx, e2 x = V' (7 * (n + (x 0).val) + 2)) (h3 : ∀ x : S16.Idx, e3 x = V' (7 * (n + (x 0).val) + 3))
    (h4 : ∀ x : S16.Idx, e4 x = V' (7 * (n + (x 0).val) + 4)) (h5 : ∀ x : S16.Idx, e5 x = V' (7 * (n + (x 0).val) + 5))
    (h6 : ∀ x : S16.Idx, e6 x = V' (7 * (n + (x 0).val) + 6)) :
    ((thr d L).loc cc0_scratch5 ↦{fullShare} f : sProp 𝕄)
      ⊢ iprop((∀ f' : Vec F S32256 .f32, ⌜Part V' (n + 16) 0 f'⌝ -∗ ((thr d L).loc cc0_scratch5 ↦{fullShare} f') -∗ Q ⟨⟩)
        -∗ wp frame (wpE (defs₀ (F := F)) 𝒱₀ (thr d L) none) Set.univ (stores (i := L) sOut oi h e0 e1 e2 e3 e4 e5 e6) Q) := by
  have hoj : ∀ (j : ℕ) (_ : j < 7) (x : S16.Idx), (addi oi (broadcast S16 (BitVec.ofNat 32 j)) x).toNat = 7 * (n + (x 0).val) + j := fun j hj x =>
    add_toNat oi j x (hoi x) (by have hx : (x 0).val < 16 := (x 0).isLt; omega)
  unfold stores
  simp only [wp_bind]
  iintro H Hk
  iapply (wp_store16 d L h hf (by omega) hoi h0) $$ H; iintro %f1 %hf1 H
  iapply (wp_put d L hn hf1 (by omega) (hoj 1 (by omega)) h1) $$ H; iintro %f2 %hf2 H
  iapply (wp_put d L hn hf2 (by omega) (hoj 2 (by omega)) h2) $$ H; iintro %f3 %hf3 H
  iapply (wp_put d L hn hf3 (by omega) (hoj 3 (by omega)) h3) $$ H; iintro %f4 %hf4 H
  iapply (wp_put d L hn hf4 (by omega) (hoj 4 (by omega)) h4) $$ H; iintro %f5 %hf5 H
  iapply (wp_put d L hn hf5 (by omega) (hoj 5 (by omega)) h5) $$ H; iintro %f6 %hf6 H
  iapply (wp_put d L hn hf6 (by omega) (hoj 6 (by omega)) h6) $$ H; iintro %f7 %hf7 H
  iapply Hk $$ %_ [] H
  ipureintro
  exact hf7.next

/-- The table scratch held by its own name and through the whole rectangle a gather goes through. -/
theorem pts_sTab (f : Vec F S16 .f32) :
    (((sTab.access (.whole S16)).loc (thr d L) ↦{fullShare} f : sProp 𝕄)) = (thr d L).loc cc0_scratch4 ↦{fullShare} f := rfl

/-- A gather of sixteen lanes from the table. -/
theorem wp_tab {Q : Vec F S16 .f32 → sProp 𝕄} {tab : Vec F S16 .f32} {w : IVec S16 32} (h : InTab w) :
    ((thr d L).loc cc0_scratch4 ↦{fullShare} tab : sProp 𝕄)
      ⊢ iprop((((thr d L).loc cc0_scratch4 ↦{fullShare} tab) -∗ Q (fun x => tab (ix (w x).toNat)))
        -∗ wp frame (wpE (defs₀ (F := F)) 𝒱₀ (thr d L) none) Set.univ (SparseCore.vectorLoadIdx sTab ![w] h (View.loads_vmem h_S16)) Q) := by
  iintro H Hk
  rw [show (SparseCore.vectorLoadIdx sTab ![w] h (View.loads_vmem h_S16) : TP F L (Vec F S16 .f32))
    = (SparseCore.vectorLoadIdx sTab ![w] h (View.loads_vmem h_S16) : TP F L (Vec F S16 .f32)) >>= Prog.ret from rfl]
  iapply (SparseCore.wp_vectorLoadIdx 𝒱₀ (thr d L) none Set.univ (base := sTab) (S := Finset.univ) (q := fullShare) (f := tab) (Finset.subset_univ _)) $$ [H]
  · iapply (Entails.of_eq (pts_sTab d L tab).symm); iexact H
  iintro H
  rw [show (sTab.access (.whole S16)).read (Elt F) tab = tab from Memref.read_access_whole (Elt F) cc0_scratch4 tab,
    show loadIdx (s := S16) (e := .f32) tab ![w] h = (fun x => tab (ix (w x).toNat)) from funext fun x => congrArg tab (ix_eq _ rfl), wp_ret]
  imodintro
  iapply Hk
  iapply (Entails.of_eq (pts_sTab d L tab)); iexact H

/-- A checked gather. -/
theorem wp_gather {Q : Vec F S16 .f32 → sProp 𝕄} {tab : Vec F S16 .f32} {w : IVec S16 32} {dec : Decidable (InTab w)} (h : InTab w) :
    ((thr d L).loc cc0_scratch4 ↦{fullShare} tab : sProp 𝕄)
      ⊢ iprop((((thr d L).loc cc0_scratch4 ↦{fullShare} tab) -∗ Q (fun x => tab (ix (w x).toNat)))
        -∗ wp frame (wpE (defs₀ (F := F)) 𝒱₀ (thr d L) none) Set.univ (gather (i := L) sTab w dec) Q) := by
  unfold gather
  rw [wp_bind]
  iintro H Hk
  iapply (wp_assume 𝒱₀ (thr d L) none Set.univ h)
  rw [wp_ret]
  imodintro
  iapply (wp_tab d L h) $$ H
  iexact Hk

/-- Sixteen tile types loaded. -/
theorem wp_ldT {Q : Vec F S16 .i32 → sProp 𝕄} {f : Vec F S4608 .i32} {o : Fin 1 → ℕ} {n : ℕ} (ho : o = ![n]) (inb : ∀ a, o a + S16.size a ≤ S4608.size a) :
    ((thr d L).loc cc0_scratch0 ↦{fullShare} f : sProp 𝕄)
      ⊢ iprop((((thr d L).loc cc0_scratch0 ↦{fullShare} f) -∗ Q (fun x => f (ix (n + (x 0).val))))
        -∗ wp frame (wpE (defs₀ (F := F)) 𝒱₀ (thr d L) none) Set.univ (Prog.lift (.load sT (Rect.unit (s := S4608) o S16.size inb).toLoadRect (View.loadsAt_vmem h_S16))) Q) := by
  subst ho
  iintro H Hk
  iapply (wp_load 𝒱₀ (thr d L) none Set.univ (m := sT) (S := Finset.univ) (f := f) (Finset.subset_univ _)) $$ H
  iintro H
  rw [wp_ret, show (View.readAt (Elt F) sT.view (Rect.unit (s := S4608) ![n] S16.size inb).toLoadRect f)
    = (fun x : S16.Idx => f (ix (n + (x 0).val))) from funext fun x => congrArg f (ix_eq _ (by show n + 1 * (x 0).val = _; omega))]
  imodintro
  iapply Hk; iexact H

/-- Sixteen unit counts loaded. -/
theorem wp_ldU {Q : Vec F S16 .f32 → sProp 𝕄} {f : Vec F S4608 .f32} {o : Fin 1 → ℕ} {n : ℕ} (ho : o = ![n]) (inb : ∀ a, o a + S16.size a ≤ S4608.size a) :
    ((thr d L).loc cc0_scratch1 ↦{fullShare} f : sProp 𝕄)
      ⊢ iprop((((thr d L).loc cc0_scratch1 ↦{fullShare} f) -∗ Q (fun x => f (ix (n + (x 0).val))))
        -∗ wp frame (wpE (defs₀ (F := F)) 𝒱₀ (thr d L) none) Set.univ (Prog.lift (.load sU (Rect.unit (s := S4608) o S16.size inb).toLoadRect (View.loadsAt_vmem h_S16))) Q) := by
  subst ho
  iintro H Hk
  iapply (wp_load 𝒱₀ (thr d L) none Set.univ (m := sU) (S := Finset.univ) (f := f) (Finset.subset_univ _)) $$ H
  iintro H
  rw [wp_ret, show (View.readAt (Elt F) sU.view (Rect.unit (s := S4608) ![n] S16.size inb).toLoadRect f)
    = (fun x : S16.Idx => f (ix (n + (x 0).val))) from funext fun x => congrArg f (ix_eq _ (by show n + 1 * (x 0).val = _; omega))]
  imodintro
  iapply Hk; iexact H

/-- Sixteen relic flags loaded. -/
theorem wp_ldR {Q : Vec F S16 .i32 → sProp 𝕄} {f : Vec F S4608 .i32} {o : Fin 1 → ℕ} {n : ℕ} (ho : o = ![n]) (inb : ∀ a, o a + S16.size a ≤ S4608.size a) :
    ((thr d L).loc cc0_scratch2 ↦{fullShare} f : sProp 𝕄)
      ⊢ iprop((((thr d L).loc cc0_scratch2 ↦{fullShare} f) -∗ Q (fun x => f (ix (n + (x 0).val))))
        -∗ wp frame (wpE (defs₀ (F := F)) 𝒱₀ (thr d L) none) Set.univ (Prog.lift (.load sR (Rect.unit (s := S4608) o S16.size inb).toLoadRect (View.loadsAt_vmem h_S16))) Q) := by
  subst ho
  iintro H Hk
  iapply (wp_load 𝒱₀ (thr d L) none Set.univ (m := sR) (S := Finset.univ) (f := f) (Finset.subset_univ _)) $$ H
  iintro H
  rw [wp_ret, show (View.readAt (Elt F) sR.view (Rect.unit (s := S4608) ![n] S16.size inb).toLoadRect f)
    = (fun x : S16.Idx => f (ix (n + (x 0).val))) from funext fun x => congrArg f (ix_eq _ (by show n + 1 * (x 0).val = _; omega))]
  imodintro
  iapply Hk; iexact H

/-- Sixteen rewards loaded. -/
theorem wp_ldW {Q : Vec F S16 .f32 → sProp 𝕄} {f : Vec F S4096 .f32} {o : Fin 1 → ℕ} {n : ℕ} (ho : o = ![n]) (inb : ∀ a, o a + S16.size a ≤ S4096.size a) :
    ((thr d L).loc cc0_scratch3 ↦{fullShare} f : sProp 𝕄)
      ⊢ iprop((((thr d L).loc cc0_scratch3 ↦{fullShare} f) -∗ Q (fun x => f (ix (n + (x 0).val))))
        -∗ wp frame (wpE (defs₀ (F := F)) 𝒱₀ (thr d L) none) Set.univ (Prog.lift (.load sW (Rect.unit (s := S4096) o S16.size inb).toLoadRect (View.loadsAt_vmem h_S16))) Q) := by
  subst ho
  iintro H Hk
  iapply (wp_load 𝒱₀ (thr d L) none Set.univ (m := sW) (S := Finset.univ) (f := f) (Finset.subset_univ _)) $$ H
  iintro H
  rw [wp_ret, show (View.readAt (Elt F) sW.view (Rect.unit (s := S4096) ![n] S16.size inb).toLoadRect f)
    = (fun x : S16.Idx => f (ix (n + (x 0).val))) from funext fun x => congrArg f (ix_eq _ (by show n + 1 * (x 0).val = _; omega))]
  imodintro
  iapply Hk; iexact H

/-! ## The words a group computes -/

/-- The group's first position as a word. -/
theorem pos_toNat : ∀ (t2 : Fin k0_t2_loop.trips) (g : Fin 36), (pos t2 g).toNat = 576 * t2.val + 16 * g.val := by decide +kernel
theorem goff_eq (t2 : Fin k0_t2_loop.trips) (g : Fin 36) : goff t2 g = ![576 * t2.val + 16 * g.val] := by
  show ![(pos t2 g).toNat] = _
  rw [pos_toNat]
theorem t2_lt (t2 : Fin k0_t2_loop.trips) : t2.val < 8 := t2.isLt

/-- A lane of the output offsets: seven elements a position. -/
theorem oi_toNat {v6 : IVec S16 32} (h6 : ∀ x, (v6 x).toNat = 7 * (x 0).val) (t2 : Fin k0_t2_loop.trips) (g : Fin 36) (x : S16.Idx) :
    (addi v6 (broadcast S16 (Scalar.muli (pos t2 g) 7#32)) x).toNat = 7 * (576 * t2.val + 16 * g.val + (x 0).val) := by
  have hx : (x 0).val < 16 := (x 0).isLt
  have h2 := t2_lt t2
  show (v6 x + pos t2 g * 7#32).toNat = _
  rw [BitVec.toNat_add, BitVec.toNat_mul, h6, pos_toNat]
  show (7 * (x 0).val + (576 * t2.val + 16 * g.val) * 7 % 2 ^ 32) % 2 ^ 32 = _
  omega

/-- A lane of the table offsets: four entries a tile type. -/
theorem ti_toNat (w : IVec S16 32) (x : S16.Idx) (h : (w x).toNat < 4) : (muli w (broadcast S16 4#32) x).toNat = 4 * (w x).toNat := by
  show (w x * 4#32).toNat = _
  rw [BitVec.toNat_mul]
  show (w x).toNat * 4 % 2 ^ 32 = _
  omega

/-- The chunk's inputs and the table, as a group reads them. -/
abbrev held (t : Vec F S4608 .i32) (u : Vec F S4608 .f32) (r : Vec F S4608 .i32) (tab : Vec F S16 .f32) : sProp 𝕄 :=
  iprop(((thr d L).loc cc0_scratch0 ↦{fullShare} t) ∗ ((thr d L).loc cc0_scratch1 ↦{fullShare} u) ∗ ((thr d L).loc cc0_scratch2 ↦{fullShare} r)
    ∗ ((thr d L).loc cc0_scratch4 ↦{fullShare} tab))

/-- The flat output of a chunk whose positions' inputs the scratches hold, `w` its rewards by position. -/
abbrev chunk (t : Vec F S4608 .i32) (u : Vec F S4608 .f32) (r : Vec F S4608 .i32) (tab : Vec F S16 .f32) (w : ℕ → F .f32) : ℕ → F .f32 :=
  flat tab (fun p => t (ix p)) (fun p => u (ix p)) (fun p => r (ix p)) w

/-- Column `j` of the row of the position `l` after `n`. -/
theorem chunk_col (t : Vec F S4608 .i32) (u : Vec F S4608 .f32) (r : Vec F S4608 .i32) (tab : Vec F S16 .f32) (w : ℕ → F .f32) (n j l : ℕ) (hj : j < 7) :
    chunk t u r tab w (7 * (n + l) + j) = cell tab (fun p => t (ix p)) (fun p => u (ix p)) (fun p => r (ix p)) w (n + l) j := by
  show cell _ _ _ _ _ ((7 * (n + l) + j) / 7) ((7 * (n + l) + j) % 7) = _
  rw [show (7 * (n + l) + j) / 7 = n + l by omega, show (7 * (n + l) + j) % 7 = j by omega]

/-- Offsets into the table lie inside it. -/
theorem inTab {v : IVec S16 32} {c : S16.Idx → ℕ} {j : ℕ} (hj : j < 4) (hc : ∀ x, c x < 4) (h : ∀ x, (v x).toNat = 4 * c x + j) : InTab v := fun a x => by
  obtain rfl : a = 0 := Fin.eq_zero a
  show (v x).toNat < 16
  have := h x
  have := hc x
  omega

/-- One group: sixteen more positions of the chunk's output hold their rows. -/
theorem wp_group {Q : PUnit → sProp 𝕄} {t : Vec F S4608 .i32} {u : Vec F S4608 .f32} {r : Vec F S4608 .i32} {tab : Vec F S16 .f32} {w : ℕ → F .f32}
    {v6 : IVec S16 32} {rv : Vec F S16 .f32} {f : Vec F S32256 .f32} {n : ℕ} (t2 : Fin k0_t2_loop.trips) (g : Fin 36)
    (hn : 576 * t2.val + 16 * g.val = n) (h6 : ∀ x, (v6 x).toNat = 7 * (x 0).val) (ht : ∀ i, BitVec.toNat (t i) < 4)
    (hrv : ∀ x : S16.Idx, rv x = w (n + (x 0).val)) (hf : Part (chunk t u r tab w) n 0 f) :
    iprop(held d L t u r tab ∗ ((thr d L).loc cc0_scratch5 ↦{fullShare} f))
      ⊢ iprop((∀ f' : Vec F S32256 .f32, ⌜Part (chunk t u r tab w) (n + 16) 0 f'⌝
          -∗ held d L t u r tab -∗ ((thr d L).loc cc0_scratch5 ↦{fullShare} f') -∗ Q ⟨⟩)
        -∗ wp frame (wpE (defs₀ (F := F)) 𝒱₀ (thr d L) none) Set.univ (group (i := L) sT sU sR sTab sOut v6 t2 rv g) Q) := by
  have hn' : n + 16 ≤ 4608 := by have := t2_lt t2; have := g.isLt; omega
  have ho : goff t2 g = ![n] := (goff_eq t2 g).trans (by rw [hn])
  have hc : ∀ x : S16.Idx, BitVec.toNat (t (ix (n + (x 0).val))) < 4 := fun x => ht _
  have hti := fun x => ti_toNat (fun x : S16.Idx => t (ix (n + (x 0).val))) x (hc x)
  have htj := fun (j : ℕ) (hj : j < 4) (x : S16.Idx) => add_toNat _ j x (hti x) (by have := hc x; omega)
  have hoi := fun x => (oi_toNat h6 t2 g x).trans (by rw [hn])
  unfold group
  simp only [wp_bind]
  iintro ⟨⟨Ht, Hu, Hr, Htab⟩, Ho⟩ Hk
  iapply (wp_ldT d L ho (goff_inb t2 g)) $$ Ht; iintro Ht
  iapply (wp_ldU d L ho (goff_inb t2 g)) $$ Hu; iintro Hu
  iapply (wp_ldR d L ho (goff_inb t2 g)) $$ Hr; iintro Hr
  iapply (wp_assume 𝒱₀ (thr d L) none Set.univ (inTab (j := 0) (by omega) hc hti))
  rw [wp_ret]; imodintro
  iapply (wp_assume 𝒱₀ (thr d L) none Set.univ (inOut (j := 0) (by omega) hn' hoi))
  rw [wp_ret]; imodintro
  iapply (wp_tab d L (inTab (j := 0) (by omega) hc hti)) $$ Htab; iintro Htab
  iapply (wp_gather d L (inTab (by omega) hc (htj 1 (by omega)))) $$ Htab; iintro Htab
  iapply (wp_gather d L (inTab (by omega) hc (htj 2 (by omega)))) $$ Htab; iintro Htab
  iapply (wp_gather d L (inTab (by omega) hc (htj 3 (by omega)))) $$ Htab; iintro Htab
  iapply (wp_stores d L hn' hoi hf ?_ ?_ ?_ ?_ ?_ ?_ ?_) $$ Ho
  · intro x; rw [chunk_col _ _ _ _ _ _ _ _ (by omega), hti]; rfl
  · intro x; rw [chunk_col _ _ _ _ _ _ _ _ (by omega), htj 1 (by omega)]; rfl
  · intro x; rw [chunk_col _ _ _ _ _ _ _ _ (by omega), htj 2 (by omega)]; rfl
  · intro x; rw [chunk_col _ _ _ _ _ _ _ _ (by omega), htj 3 (by omega)]; rfl
  · intro x; rw [chunk_col _ _ _ _ _ _ _ _ (by omega)]; rfl
  · intro x; rw [chunk_col _ _ _ _ _ _ _ _ (by omega)]; rfl
  · intro x; rw [chunk_col _ _ _ _ _ _ _ _ (by omega), hrv]; rfl
  · iintro %f' %hf' Ho
    iapply Hk $$ %f' %hf' [Ht Hu Hr Htab] Ho
    isplitl [Ht]; · iexact Ht
    isplitl [Hu]; · iexact Hu
    isplitl [Hr]; · iexact Hr
    iexact Htab

/-- The groups from `m` on, in order. -/
theorem wp_groups {Q : PUnit → sProp 𝕄} {t : Vec F S4608 .i32} {u : Vec F S4608 .f32} {r : Vec F S4608 .i32} {tab : Vec F S16 .f32} {w : ℕ → F .f32}
    {v6 : IVec S16 32} {rv : Vec F S16 .f32} (t2 : Fin k0_t2_loop.trips)
    (h6 : ∀ x, (v6 x).toNat = 7 * (x 0).val) (ht : ∀ i, BitVec.toNat (t i) < 4)
    (hrv : ∀ (g : Fin 36) (x : S16.Idx), rv x = w (576 * t2.val + 16 * g.val + (x 0).val)) (k : ℕ) :
    ∀ (l : List (Fin 36)) (m : ℕ) (_ : l.map Fin.val = List.range' m k) (f : Vec F S32256 .f32) (_ : Part (chunk t u r tab w) (576 * t2.val + 16 * m) 0 f),
    iprop(held d L t u r tab ∗ ((thr d L).loc cc0_scratch5 ↦{fullShare} f))
      ⊢ iprop((∀ f' : Vec F S32256 .f32, ⌜Part (chunk t u r tab w) (576 * t2.val + 16 * (m + k)) 0 f'⌝
          -∗ held d L t u r tab -∗ ((thr d L).loc cc0_scratch5 ↦{fullShare} f') -∗ Q ⟨⟩)
        -∗ wp frame (wpE (defs₀ (F := F)) 𝒱₀ (thr d L) none) Set.univ (groupsFrom (i := L) sT sU sR sTab sOut v6 t2 rv l) Q) := by
  induction k with
  | zero =>
    intro l m hl f hf
    obtain rfl : l = [] := by simpa using hl
    unfold groupsFrom
    rw [wp_pure]
    iintro ⟨Hh, Ho⟩ Hk
    imodintro
    iapply Hk $$ %f %hf Hh Ho
  | succ k ih =>
    intro l m hl f hf
    match l, hl with
    | g :: l, hl =>
      rw [List.map_cons, List.range'_succ, List.cons.injEq] at hl
      obtain ⟨rfl, hl⟩ := hl
      unfold groupsFrom
      rw [wp_bind]
      iintro H Hk
      iapply (wp_group d L t2 g rfl h6 ht (hrv g) hf) $$ H
      iintro %f' %hf' Hh Ho
      iapply (ih l (g.val + 1) hl f' (by rw [show 576 * t2.val + 16 * (g.val + 1) = 576 * t2.val + 16 * g.val + 16 by omega]; exact hf')) $$ [Hh Ho]
      · isplitl [Hh]; · iexact Hh
        iexact Ho
      rw [show g.val + 1 + k = g.val + (k + 1) by omega]
      iexact Hk

/-- A chunk's rewards by position, `rw` the task's rewards, sixteen copies of each environment's. -/
abbrev chunkW (rw : Vec F S4096 .f32) (t1 : ℕ) (p : ℕ) : F .f32 := rw (ix (128 * t1 + 16 * (p / 576) + p % 16))

/-- One environment of a chunk. -/
theorem wp_env {Q : PUnit → sProp 𝕄} {t : Vec F S4608 .i32} {u : Vec F S4608 .f32} {r : Vec F S4608 .i32} {tab : Vec F S16 .f32} {rw' : Vec F S4096 .f32}
    {v6 : IVec S16 32} (t1 : Fin k0_t1_loop.trips) (t2 : Fin k0_t2_loop.trips)
    (h6 : ∀ x, (v6 x).toNat = 7 * (x 0).val) (ht : ∀ i, BitVec.toNat (t i) < 4)
    {f : Vec F S32256 .f32} (hf : Part (chunk t u r tab (chunkW rw' t1)) (576 * t2.val) 0 f) :
    iprop(((thr d L).loc cc0_scratch3 ↦{fullShare} rw') ∗ held d L t u r tab ∗ ((thr d L).loc cc0_scratch5 ↦{fullShare} f))
      ⊢ iprop((∀ f' : Vec F S32256 .f32, ⌜Part (chunk t u r tab (chunkW rw' t1)) (576 * (t2.val + 1)) 0 f'⌝
          -∗ ((thr d L).loc cc0_scratch3 ↦{fullShare} rw') -∗ held d L t u r tab -∗ ((thr d L).loc cc0_scratch5 ↦{fullShare} f') -∗ Q ⟨⟩)
        -∗ wp frame (wpE (defs₀ (F := F)) 𝒱₀ (thr d L) none) Set.univ (envBody (i := L) sT sU sR sW sTab sOut v6 t1 t2) Q) := by
  unfold envBody
  rw [wp_bind]
  iintro ⟨Hw, H⟩ Hk
  iapply (wp_ldW d L (k0_off3_eq t1 t2) (k0_off3_inb t1 t2)) $$ Hw
  iintro Hw
  iapply (wp_groups (w := chunkW rw' t1) d L t2 h6 ht (fun g x => ?_) 36 allGroups 0 rfl f hf) $$ H
  · have hx : (x 0).val < 16 := (x 0).isLt
    have hg := g.isLt
    show rw' _ = rw' _
    congr 2
    omega
  iintro %f' %hf' Hh Ho
  iapply Hk $$ %f' %_ Hw Hh Ho
  rw [show 576 * (t2.val + 1) = 576 * t2.val + 16 * (0 + 36) by omega]
  exact hf'

end Cert.Proof.KernelRun

end
-- ==== Proof.Tile.lean ====
/-
  One task of the SparseCore call, with its value: from read shares of the five operands and the thirty-two chunks of the output
  that belong to it, the task fetches the table and its environments' rewards, and for each chunk fetches the positions' tile
  types, unit counts and relic flags, fills the output scratch (`wp_env`, eight environments) and copies it to the chunk.
-/
module

public import proofs.«01_k».proof.Proof.GroupRun
public import proofs.«01_k».proof.Proof.Gen.Kernel.Skeleton

@[expose] public section

noncomputable section

namespace Cert.Proof.KernelRun

open Cert.Kernel Cert.Kernel.Gen Cert.Proof.Cells
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The operands and the output -/

/-- The call's operands and output as locations of device `d`: tile types, unit counts, relic flags, rewards (sixteen copies an
    environment), table, output. -/
abbrev tLoc (d : Dev nD) : Loc nD τ sig := (SparseCore.T d).loc main_v0
abbrev uLoc (d : Dev nD) : Loc nD τ sig := (SparseCore.T d).loc main_v1
abbrev rLoc (d : Dev nD) : Loc nD τ sig := (SparseCore.T d).loc main_v2
abbrev wLoc (d : Dev nD) : Loc nD τ sig := (SparseCore.T d).loc main_v5
abbrev bLoc (d : Dev nD) : Loc nD τ sig := (SparseCore.T d).loc main_v6
abbrev oLoc (d : Dev nD) : Loc nD τ sig := (SparseCore.T d).loc main_v7

/-- The operands as a task's memrefs. -/
abbrev mT : Memref sig .scVector .hbm S4718592 .i32 := Memref.whole main_v0_scv
abbrev mU : Memref sig .scVector .hbm S4718592 .f32 := Memref.whole main_v1_scv
abbrev mR : Memref sig .scVector .hbm S4718592 .i32 := Memref.whole main_v2_scv
abbrev mW : Memref sig .scVector .hbm S131072 .f32 := Memref.whole main_v5_scv
abbrev mB : Memref sig .scVector .hbm S16 .f32 := Memref.whole main_v6_scv
abbrev mO : Memref sig .scVector .hbm S33030144 .f32 := Memref.whole main_v7_scv

/-- What the six arrays hold when the call starts, device by device. -/
structure Ins (F : FTy → Type) where
  t : (d : Dev nD) → Vec F S4718592 .i32
  u : (d : Dev nD) → Vec F S4718592 .f32
  r : (d : Dev nD) → Vec F S4718592 .i32
  w : (d : Dev nD) → Vec F S131072 .f32
  b : (d : Dev nD) → Vec F S16 .f32
  o : (d : Dev nD) → Vec F S33030144 .f32

/-- Every tile type names a row of the table. -/
def Ins.Ok (A : Ins F) : Prop := ∀ d i, BitVec.toNat (A.t d i) < 4

variable [FloatOps F]

/-- What the call leaves in the output. -/
def Ins.out (A : Ins F) (d : Dev nD) : Vec F S33030144 .f32 := fun i =>
  flat (A.b d) (fun p => A.t d (ix p)) (fun p => A.u d (ix p)) (fun p => A.r d (ix p)) (fun p => A.w d (ix (16 * (p / 576) + p % 16))) (i 0).val

/-- The share of the operands that a task reads through. -/
def rq (L : grid0.Coords) : PosShare TreeShare := Transfers.dealOf (Transfers.dealOf fullShare Finset.univ (L 0)) Finset.univ (L 1)

/-- A task's chunk of the output, as the task names it. -/
abbrev oChunk (L : grid0.Coords) (t1 : Fin k0_t1_loop.trips) : Memref sig .scVector .hbm S32256 .f32 :=
  mO.slice (Rect.unit (s := S33030144) (k0_off40 L t1) S32256.size (k0_off40_inb L t1)) (fun _ => rfl)
abbrev oSet (L : grid0.Coords) (t1 : Fin k0_t1_loop.trips) : Finset S33030144.Idx := (oChunk L t1).view.set

variable (A : Ins F) (d : Dev nD) (L : grid0.Coords)

/-- The task's read shares of the operands, -/
abbrev insPts : sProp 𝕄 :=
  iprop((tLoc d ↦{rq L} A.t d) ∗ (uLoc d ↦{rq L} A.u d) ∗ (rLoc d ↦{rq L} A.r d) ∗ (wLoc d ↦{rq L} A.w d) ∗ (bLoc d ↦{rq L} A.b d))
/-- and its chunks of the output, each at contents of its own. -/
abbrev outPts (f : Fin k0_t1_loop.trips → Vec F S33030144 .f32) : sProp 𝕄 :=
  bigSep Finset.univ fun t1 => oLoc d ↦[oSet L t1]{fullShare} f t1

/-- What a task is handed, -/
abbrev goPts : sProp 𝕄 := iprop(insPts A d L ∗ outPts d L fun _ => A.o d)
/-- and what it hands back. -/
abbrev tdPts : sProp 𝕄 := iprop(insPts A d L ∗ outPts d L fun _ => A.out d)

/-! ## The task's cells and buffers -/

abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell3 : GSem nD τ sig := (thr d L, .dma cc0_scoped3.sem)
abbrev cell4 : GSem nD τ sig := (thr d L, .dma cc0_scoped4.sem)
abbrev cell5 : GSem nD τ sig := (thr d L, .dma cc0_scoped5.sem)

/-- The task's other counters, at zero. -/
abbrev semRest : sProp 𝕄 :=
  bigSep ((((((ownCells (thr d L)).erase (cell0 d L)).erase (cell1 d L)).erase (cell2 d L)).erase (cell3 d L)).erase (cell4 d L) |>.erase (cell5 d L))
    fun g => semVal g 0

omit [FloatOps F] in
/-- The task's own counters are the six the body names, at zero, and the rest. -/
theorem ownSems0_thr : (ownSems0 (thr d L) : sProp 𝕄)
    = iprop(semVal (cell0 d L) 0 ∗ semVal (cell1 d L) 0 ∗ semVal (cell2 d L) 0 ∗ semVal (cell3 d L) 0 ∗ semVal (cell4 d L) 0 ∗ semVal (cell5 d L) 0 ∗ semRest d L) := by
  have hm : ∀ s : SemLoc sig, s.isScoped .scVector = true → ((thr d L, s) : GSem nD τ sig) ∈ ownCells (thr d L) := fun s h => mem_ownCells.mpr ⟨rfl, h⟩
  have hne : ∀ s s' : SemLoc sig, s ≠ s' → ((thr d L, s) : GSem nD τ sig) ≠ (thr d L, s') := fun s s' h e => h (congrArg Prod.snd e)
  unfold SparseCore.Cfg.ownSems0
  rw [SparseCore.bigSep_erase' (i := cell0 d L) (hm _ (by decide)),
    SparseCore.bigSep_erase' (i := cell1 d L) (by simp only [Finset.mem_erase]; exact ⟨hne _ _ (by decide), hm _ (by decide)⟩),
    SparseCore.bigSep_erase' (i := cell2 d L) (by simp only [Finset.mem_erase]; exact ⟨hne _ _ (by decide), hne _ _ (by decide), hm _ (by decide)⟩),
    SparseCore.bigSep_erase' (i := cell3 d L) (by simp only [Finset.mem_erase]; exact ⟨hne _ _ (by decide), hne _ _ (by decide), hne _ _ (by decide), hm _ (by decide)⟩),
    SparseCore.bigSep_erase' (i := cell4 d L) (by
      simp only [Finset.mem_erase]; exact ⟨hne _ _ (by decide), hne _ _ (by decide), hne _ _ (by decide), hne _ _ (by decide), hm _ (by decide)⟩),
    SparseCore.bigSep_erase' (i := cell5 d L) (by
      simp only [Finset.mem_erase]
      exact ⟨hne _ _ (by decide), hne _ _ (by decide), hne _ _ (by decide), hne _ _ (by decide), hne _ _ (by decide), hm _ (by decide)⟩)]

/-- A scratch of the task as the device names it. -/
abbrev scr (L : grid0.Coords) (b : Ref sig .scVector) : DevRef τ sig := (Proc.scVector (cV L) (jV L)).devRef b

/-- The task's other buffers, each at some contents. -/
abbrev bufRest : sProp 𝕄 :=
  bigSep ((((((ownRefs (τ := τ) (sig := sig) (.scVector (cV L) (jV L))).erase (scr L cc0_scratch0)).erase (scr L cc0_scratch1)).erase (scr L cc0_scratch2)).erase
    (scr L cc0_scratch3)).erase (scr L cc0_scratch4) |>.erase (scr L cc0_scratch5)) fun b => iprop(∃ f, ((d, b) : Loc nD τ sig) ↦{fullShare} f)

omit [FloatOps F] in
/-- The task's own buffers are its six scratches, each at some contents, and the rest. -/
theorem ownBufs_thr : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f)
        ∗ (∃ f, (thr d L).loc cc0_scratch3 ↦{fullShare} f) ∗ (∃ f, (thr d L).loc cc0_scratch4 ↦{fullShare} f) ∗ (∃ f, (thr d L).loc cc0_scratch5 ↦{fullShare} f) ∗ bufRest d L) := by
  have hm : ∀ b : Ref sig .scVector, (scr L b).owner = .proc (.scVector (cV L) (jV L)) → scr L b ∈ ownRefs (τ := τ) (sig := sig) (.scVector (cV L) (jV L)) :=
    fun b h => SparseCore.Cfg.mem_ownRefs_of_owner h
  have hne : ∀ b b' : Ref sig .scVector, b ≠ b' → scr L b ≠ scr L b' := fun b b' h e => h (Proc.devRef_injective _ e)
  unfold SparseCore.Cfg.ownBufs
  refine (SparseCore.bigSep_erase' (i := scr L cc0_scratch0) (hm _ rfl)).trans ?_
  rw [SparseCore.bigSep_erase' (i := scr L cc0_scratch1) (by simp only [Finset.mem_erase]; exact ⟨hne _ _ (by decide), hm _ rfl⟩),
    SparseCore.bigSep_erase' (i := scr L cc0_scratch2) (by simp only [Finset.mem_erase]; exact ⟨hne _ _ (by decide), hne _ _ (by decide), hm _ rfl⟩),
    SparseCore.bigSep_erase' (i := scr L cc0_scratch3) (by simp only [Finset.mem_erase]; exact ⟨hne _ _ (by decide), hne _ _ (by decide), hne _ _ (by decide), hm _ rfl⟩),
    SparseCore.bigSep_erase' (i := scr L cc0_scratch4) (by
      simp only [Finset.mem_erase]; exact ⟨hne _ _ (by decide), hne _ _ (by decide), hne _ _ (by decide), hne _ _ (by decide), hm _ rfl⟩),
    SparseCore.bigSep_erase' (i := scr L cc0_scratch5) (by
      simp only [Finset.mem_erase]; exact ⟨hne _ _ (by decide), hne _ _ (by decide), hne _ _ (by decide), hne _ _ (by decide), hne _ _ (by decide), hm _ rfl⟩)]

/-! ## One chunk -/

/-- The first position of a chunk, -/
def base (L : grid0.Coords) (t1 : ℕ) : ℕ := 294912 * (L 1).val + 147456 * (L 0).val + 4608 * t1
/-- and the first of the task's rewards. -/
def rbase (L : grid0.Coords) : ℕ := 8192 * (L 1).val + 4096 * (L 0).val

/-- The task's rewards, once fetched. -/
abbrev tileW : Vec F S4096 .f32 := fun i => A.w d (ix (rbase L + (i 0).val))

/-- What the body holds before trip `k` of its loop: the operands' shares it reads chunks through, the scratches (rewards and
    table fetched), its counters at zero and its output chunks, the first `k` of them computed. -/
def inv (O : CellTallies nD τ sig (HIx 1)) (W : Waits sig (HIx 1)) (k : ℕ) (_ : PUnit) : sProp 𝕄 :=
  iprop(Transfers.MayWaits (thr d L) (default : HIx 1) O
    ∗ (tLoc d ↦{rq L} A.t d) ∗ (uLoc d ↦{rq L} A.u d) ∗ (rLoc d ↦{rq L} A.r d)
    ∗ ((thr d L).loc cc0_scratch3 ↦{fullShare} tileW A d L) ∗ ((thr d L).loc cc0_scratch4 ↦{fullShare} A.b d)
    ∗ (∃ f, (thr d L).loc cc0_scratch0 ↦{fullShare} f) ∗ (∃ f, (thr d L).loc cc0_scratch1 ↦{fullShare} f)
    ∗ (∃ f, (thr d L).loc cc0_scratch2 ↦{fullShare} f) ∗ (∃ f, (thr d L).loc cc0_scratch5 ↦{fullShare} f)
    ∗ semVal (cell2 d L) 0 ∗ semVal (cell3 d L) 0 ∗ semVal (cell4 d L) 0 ∗ semVal (cell5 d L) 0
    ∗ outPts d L (fun t1 => if t1.val < k then A.out d else A.o d)
    ∗ ∃ W', ⌜∀ p ∈ W', p ∈ W ∨ p.2 = none⌝ ∗ owes (thr d L) O W')

/-- A chunk's tile types, unit counts and relic flags, once fetched. -/
abbrev chT (t1 : ℕ) : Vec F S4608 .i32 := fun i => A.t d (ix (base L t1 + (i 0).val))
abbrev chU (t1 : ℕ) : Vec F S4608 .f32 := fun i => A.u d (ix (base L t1 + (i 0).val))
abbrev chR (t1 : ℕ) : Vec F S4608 .i32 := fun i => A.r d (ix (base L t1 + (i 0).val))

/-- The chunk's output over what the scratches hold. -/
abbrev chOut (t1 : ℕ) : ℕ → F .f32 := chunk (chT A d L t1) (chU A d L t1) (chR A d L t1) (A.b d) (chunkW (tileW A d L) t1)

theorem t1_lt (t1 : Fin k0_t1_loop.trips) : t1.val < 32 := t1.isLt

/-- A slice of an array of positions, read: the positions from the slice's offset on. -/
theorem slice_ix {N n : ℕ} [NeZero N] {α : Type} (a : (V1 N).Idx → α) {o : Fin 1 → ℕ} {b : ℕ} (ho : o = ![b]) (inb : ∀ i, o i + (V1 n).size i ≤ (V1 N).size i) :
    (fun x : (V1 n).Idx => a ((Rect.unit (s := V1 N) o (V1 n).size inb).emb x)) = fun x => a (ix (b + (x 0).val)) := by
  subst ho
  exact funext fun x => congrArg a (ix_eq _ (by show b + 1 * (x 0).val = _; omega))

theorem fetch_T (t1 : Fin k0_t1_loop.trips) (f : Vec F S4608 .i32) :
    sT.view.write (Elt F) f ((mT.slice (Rect.unit (s := S4718592) (k0_off2 L t1) S4608.size (k0_off2_inb L t1)) (fun _ => rfl)).view.read (Elt F) (A.t d)) Finset.univ
      = chT A d L t1.val := by
  refine (View.write_whole_univ (Val := Elt F) cc0_scratch0 f _).trans ?_
  exact slice_ix (A.t d) (k0_off2_eq L t1) (k0_off2_inb L t1)
theorem fetch_U (t1 : Fin k0_t1_loop.trips) (f : Vec F S4608 .f32) :
    sU.view.write (Elt F) f ((mU.slice (Rect.unit (s := S4718592) (k0_off2 L t1) S4608.size (k0_off2_inb L t1)) (fun _ => rfl)).view.read (Elt F) (A.u d)) Finset.univ
      = chU A d L t1.val := by
  refine (View.write_whole_univ (Val := Elt F) cc0_scratch1 f _).trans ?_
  exact slice_ix (A.u d) (k0_off2_eq L t1) (k0_off2_inb L t1)
theorem fetch_R (t1 : Fin k0_t1_loop.trips) (f : Vec F S4608 .i32) :
    sR.view.write (Elt F) f ((mR.slice (Rect.unit (s := S4718592) (k0_off2 L t1) S4608.size (k0_off2_inb L t1)) (fun _ => rfl)).view.read (Elt F) (A.r d)) Finset.univ
      = chR A d L t1.val := by
  refine (View.write_whole_univ (Val := Elt F) cc0_scratch2 f _).trans ?_
  exact slice_ix (A.r d) (k0_off2_eq L t1) (k0_off2_inb L t1)
theorem fetch_W (f : Vec F S4096 .f32) :
    sW.view.write (Elt F) f ((mW.slice (Rect.unit (s := S131072) (k0_off1 L) S4096.size (k0_off1_inb L)) (fun _ => rfl)).view.read (Elt F) (A.w d)) Finset.univ
      = tileW A d L := by
  refine (View.write_whole_univ (Val := Elt F) cc0_scratch3 f _).trans ?_
  exact slice_ix (A.w d) (k0_off1_eq L) (k0_off1_inb L)
theorem fetch_B (f : Vec F S16 .f32) : sTab.view.write (Elt F) f (mB.view.read (Elt F) (A.b d)) Finset.univ = A.b d :=
  View.write_whole_univ (Val := Elt F) cc0_scratch4 f _

/-- The chunk's output is its stretch of the call's output. -/
theorem chOut_eq (t1 : ℕ) (ht : t1 < 32) (k : ℕ) (hk : k < 32256) :
    chOut A d L t1 k = flat (A.b d) (fun p => A.t d (ix p)) (fun p => A.u d (ix p)) (fun p => A.r d (ix p)) (fun p => A.w d (ix (16 * (p / 576) + p % 16)))
      (7 * base L t1 + k) := by
  show cell _ _ _ _ _ (k / 7) (k % 7) = cell _ _ _ _ _ ((7 * base L t1 + k) / 7) ((7 * base L t1 + k) % 7)
  rw [show (7 * base L t1 + k) / 7 = base L t1 + k / 7 by omega, show (7 * base L t1 + k) % 7 = k % 7 by omega]
  have hp : k / 7 < 4608 := by omega
  generalize k / 7 = p at hp
  generalize k % 7 = j
  have h1 : base L t1 + p % 4608 = base L t1 + p := by rw [Nat.mod_eq_of_lt hp]
  have h2 : rbase L + (128 * t1 + 16 * (p / 576) + p % 16) % 4096 = 16 * ((base L t1 + p) / 576) + (base L t1 + p) % 16 := by
    unfold rbase base; omega
  unfold cell
  show (if j < 4 then A.b d (ix (4 * (A.t d (ix (base L t1 + p % 4608))).toNat + j)) else if j = 4 then A.u d (ix (base L t1 + p % 4608))
    else if j = 5 then FloatOps.sitofp .f32 (A.r d (ix (base L t1 + p % 4608))) else A.w d (ix (rbase L + (128 * t1 + 16 * (p / 576) + p % 16) % 4096))) = _
  rw [h1, h2]

/-- A filled scratch copied to its chunk leaves the call's output there. -/
theorem copied_out (t1 : Fin k0_t1_loop.trips) {f : Vec F S32256 .f32} (hf : Part (chOut A d L t1.val) (576 * 8) 0 f) :
    ∀ i ∈ oSet L t1, (oChunk L t1).view.write (Elt F) (A.o d) (sOut.view.read (Elt F) f) Finset.univ i = A.out d i := by
  intro i hi
  obtain ⟨x, -, rfl⟩ := Finset.mem_map.mp hi
  refine (View.write_emb_of_mem (Val := Elt F) (v := (oChunk L t1).view) (A.o d) _ (Finset.mem_univ x)).trans ?_
  have hx : (x 0).val < 32256 := (x 0).isLt
  have he : ((oChunk L t1).view.emb x 0).val = 7 * base L t1.val + (x 0).val := by
    show k0_off40 L t1 0 + 1 * (x 0).val = _
    rw [k0_off40_eq]
    show 2064384 * (L 1).val + 1032192 * (L 0).val + 32256 * t1.val + 1 * (x 0).val = _
    unfold base; omega
  show f x = _
  rw [hf x (.inl (by omega)), chOut_eq A d L t1.val (t1_lt t1) _ hx]
  unfold Ins.out
  rw [he]

/-- What the inner loop holds before its trip `k`: the chunk's first `k` environments are in the output scratch. -/
def inv2 (t1 : Fin k0_t1_loop.trips) (k : ℕ) (_ : PUnit) : sProp 𝕄 :=
  iprop(∃ f : Vec F S32256 .f32, ⌜Part (chOut A d L t1.val) (576 * k) 0 f⌝ ∗ ((thr d L).loc cc0_scratch3 ↦{fullShare} tileW A d L)
    ∗ held d L (chT A d L t1.val) (chU A d L t1.val) (chR A d L t1.val) (A.b d) ∗ ((thr d L).loc cc0_scratch5 ↦{fullShare} f))

/-- The sixteen lanes' offsets inside a run of sixteen rows. -/
theorem pay1_toNat (x : S16.Idx) : (k0_pay1 x).toNat = 7 * (x 0).val := by
  have h : ∀ k : Fin 16, (BitVec.ofNat 32 k.val * 7#32).toNat = 7 * k.val := by decide
  show (BitVec.ofNat 32 (0 * 16 + (x 0).val) * 7#32).toNat = _
  rw [Nat.zero_mul, Nat.zero_add]
  exact h (x 0)

/-- One environment's trip. -/
theorem wp_trip2 (hA : A.Ok) (t1 : Fin k0_t1_loop.trips) (t2 : Fin k0_t2_loop.trips) (arg14 : BitVec 32) :
    inv2 A d L t1 t2.val ⟨⟩
      ⊢ wp frame (wpE (defs₀ (F := F)) 𝒱₀ (thr d L) none) Set.univ
          (k0_t2_body L mT (Memref.isWhole_whole _) mU (Memref.isWhole_whole _) mR (Memref.isWhole_whole _) mW (Memref.isWhole_whole _) mB (Memref.isWhole_whole _)
            mO (Memref.isWhole_whole _) sT (Memref.isWhole_whole _) sU (Memref.isWhole_whole _) sR (Memref.isWhole_whole _) sW (Memref.isWhole_whole _)
            sTab (Memref.isWhole_whole _) sOut (Memref.isWhole_whole _) cc0_scoped0 cc0_scoped1 cc0_scoped2 cc0_scoped3 cc0_scoped4 cc0_scoped5 t1 arg14 t2 ⟨⟩)
          (inv2 A d L t1 (t2.val + 1)) := by
  unfold k0_t2_body inv2
  rw [part41_eq, wp_bind]
  iintro ⟨%f, %hf, Hw, Hh, Ho⟩
  iapply (wp_env d L t1 t2 pay1_toNat (fun i => hA d _) hf) $$ [Hw Hh Ho]
  · isplitl [Hw]; · iexact Hw
    isplitl [Hh]; · iexact Hh
    iexact Ho
  iintro %f' %hf' Hw Hh Ho
  rw [wp_pure]
  imodintro
  iexists f'
  isplitr; · ipureintro; exact hf'
  isplitl [Hw]; · iexact Hw
  isplitl [Hh]; · iexact Hh
  iexact Ho

/-- The output's chunks around the one a trip copies to. -/
theorem outPts_erase (t1 : Fin k0_t1_loop.trips) (f : Fin k0_t1_loop.trips → Vec F S33030144 .f32) :
    outPts d L f = iprop((oLoc d ↦[oSet L t1]{fullShare} f t1) ∗ bigSep (Finset.univ.erase t1) fun t => oLoc d ↦[oSet L t]{fullShare} f t) :=
  SparseCore.bigSep_erase' (Finset.mem_univ t1)

set_option maxRecDepth 65536 in
/-- One trip: the chunk's inputs fetched, its output computed and copied out. -/
theorem wp_trip (hA : A.Ok) (O : CellTallies nD τ sig (HIx 1)) (W : Waits sig (HIx 1)) (t1 : Fin k0_t1_loop.trips) :
    inv A d L O W t1.val ⟨⟩
      ⊢ wp frame (wpE (defs₀ (F := F)) 𝒱₀ (thr d L) none) Set.univ
          (k0_t1_body L mT (Memref.isWhole_whole _) mU (Memref.isWhole_whole _) mR (Memref.isWhole_whole _) mW (Memref.isWhole_whole _) mB (Memref.isWhole_whole _)
            mO (Memref.isWhole_whole _) sT (Memref.isWhole_whole _) sU (Memref.isWhole_whole _) sR (Memref.isWhole_whole _) sW (Memref.isWhole_whole _)
            sTab (Memref.isWhole_whole _) sOut (Memref.isWhole_whole _) cc0_scoped0 cc0_scoped1 cc0_scoped2 cc0_scoped3 cc0_scoped4 cc0_scoped5 t1 ⟨⟩)
          fun _ => inv A d L O W (t1.val + 1) ⟨⟩ := by
  unfold k0_t1_body inv
  iintro ⟨Hmw, Ht, Hu, Hr, Hw, Hb, ⟨%ft, Hst⟩, ⟨%fu, Hsu⟩, ⟨%fr, Hsr⟩, ⟨%fo, Hso⟩, H2, H3, H4, H5, Hout, %W', %hW', HO⟩
  ihave Ht := (Entails.of_eq (show (tLoc d ↦{rq L} A.t d : sProp 𝕄) = (mT.view.loc (thr d L) ↦{rq L} A.t d) from rfl)) $$ Ht
  ihave Hu := (Entails.of_eq (show (uLoc d ↦{rq L} A.u d : sProp 𝕄) = (mU.view.loc (thr d L) ↦{rq L} A.u d) from rfl)) $$ Hu
  ihave Hr := (Entails.of_eq (show (rLoc d ↦{rq L} A.r d : sProp 𝕄) = (mR.view.loc (thr d L) ↦{rq L} A.r d) from rfl)) $$ Hr
  ihave Hst := (Entails.of_eq (show ((thr d L).loc cc0_scratch0 ↦{fullShare} ft : sProp 𝕄) = (sT.view.loc (thr d L) ↦{fullShare} ft) from rfl)) $$ Hst
  ihave Hsu := (Entails.of_eq (show ((thr d L).loc cc0_scratch1 ↦{fullShare} fu : sProp 𝕄) = (sU.view.loc (thr d L) ↦{fullShare} fu) from rfl)) $$ Hsu
  ihave Hsr := (Entails.of_eq (show ((thr d L).loc cc0_scratch2 ↦{fullShare} fr : sProp 𝕄) = (sR.view.loc (thr d L) ↦{fullShare} fr) from rfl)) $$ Hsr
  sl_exec (disch := exact View.amount_pos _ _ (show 0 < S4608.numel by decide))
  ihave Hst := (Entails.of_eq (show (sT.view.loc (thr d L) ↦{fullShare} sT.view.write (Elt F) ft (wp_trip.sl.dma0 A d L t1) Finset.univ : sProp 𝕄)
    = ((thr d L).loc cc0_scratch0 ↦{fullShare} chT A d L t1.val) from congrArg _ (fetch_T A d L t1 ft))) $$ Hst
  ihave Hsu := (Entails.of_eq (show (sU.view.loc (thr d L) ↦{fullShare} sU.view.write (Elt F) fu (wp_trip.sl.dma0_1 A d L t1) Finset.univ : sProp 𝕄)
    = ((thr d L).loc cc0_scratch1 ↦{fullShare} chU A d L t1.val) from congrArg _ (fetch_U A d L t1 fu))) $$ Hsu
  ihave Hsr := (Entails.of_eq (show (sR.view.loc (thr d L) ↦{fullShare} sR.view.write (Elt F) fr (wp_trip.sl.dma0_2 A d L t1) Finset.univ : sProp 𝕄)
    = ((thr d L).loc cc0_scratch2 ↦{fullShare} chR A d L t1.val) from congrArg _ (fetch_R A d L t1 fr))) $$ Hsr
  sl_for (inv2 A d L t1) $$ [Hw Hst Hsu Hsr Hb Hso]
  case region =>
    rintro k ⟨⟩
    exact wp_trip2 A d L hA t1 k (wp_trip.sl.arg14 t1)
  · unfold inv2
    iexists fo
    isplitr; · ipureintro; exact fun i hi => absurd hi (by omega)
    isplitl [Hw]; · iexact Hw
    isplitl [Hst Hsu Hsr Hb]
    · isplitl [Hst]; · iexact Hst
      isplitl [Hsu]; · iexact Hsu
      isplitl [Hsr]; · iexact Hsr
      iexact Hb
    iexact Hso
  iintro %_ HI
  unfold inv2
  icases HI with ⟨%f, %hf, Hw, ⟨Hst, Hsu, Hsr, Hb⟩, Hso⟩
  ihave Hout := (Entails.of_eq (outPts_erase d L t1 _)) $$ Hout
  icases Hout with ⟨Hone, Hrest⟩
  ihave Hone := (Entails.of_eq (show (oLoc d ↦[oSet L t1]{fullShare} (if t1.val < t1.val then A.out d else A.o d) : sProp 𝕄)
    = ((oChunk L t1).view.loc (thr d L) ↦[(oChunk L t1).view.set]{fullShare} A.o d) by rw [if_neg (lt_irrefl _)])) $$ Hone
  ihave Hso := (Entails.of_eq (show ((thr d L).loc cc0_scratch5 ↦{fullShare} f : sProp 𝕄) = (sOut.view.loc (thr d L) ↦{fullShare} f) from rfl)) $$ Hso
  sl_exec (disch := exact View.amount_pos _ _ (show 0 < S32256.numel by decide))
  sl_step
  ihave Hone := (Entails.of_eq (show ((oChunk L t1).view.loc (thr d L) ↦[(oChunk L t1).view.set]{fullShare}
      (oChunk L t1).view.writes (Elt F) (A.o d) [⟨Rect.whole S32256, wp_trip.sl.dma0_3 f⟩] : sProp 𝕄)
    = (oLoc d ↦[oSet L t1]{fullShare} A.out d) from pointsTo_congr fun i hi =>
      (congrFun (View.write_univ_eq_writes_whole (oChunk L t1).view (A.o d) [] _).symm i).trans (copied_out A d L t1 hf i hi))) $$ Hone
  isplitl [Hmw]; · iexact Hmw
  isplitl [Ht]; · iexact Ht
  isplitl [Hu]; · iexact Hu
  isplitl [Hr]; · iexact Hr
  isplitl [Hw]; · iexact Hw
  isplitl [Hb]; · iexact Hb
  isplitl [Hst]; · iexists _; iexact Hst
  isplitl [Hsu]; · iexists _; iexact Hsu
  isplitl [Hsr]; · iexists _; iexact Hsr
  isplitl [Hso]; · iexists _; iexact Hso
  isplitl [H2]; · iexact H2
  isplitl [H3]; · iexact H3
  isplitl [H4]; · iexact H4
  isplitl [H5]; · iexact H5
  isplitl [Hone Hrest]
  · iapply (Entails.of_eq (outPts_erase d L t1 _).symm)
    isplitl [Hone]
    · iapply (Entails.of_eq (show (oLoc d ↦[oSet L t1]{fullShare} A.out d : sProp 𝕄)
        = (oLoc d ↦[oSet L t1]{fullShare} (if t1.val < t1.val + 1 then A.out d else A.o d)) by rw [if_pos (Nat.lt_succ_self _)]))
      iexact Hone
    · iapply (Entails.of_eq (show (bigSep (Finset.univ.erase t1) fun t => (oLoc d ↦[oSet L t]{fullShare} (if t.val < t1.val then A.out d else A.o d) : sProp 𝕄))
        = bigSep (Finset.univ.erase t1) fun t => (oLoc d ↦[oSet L t]{fullShare} (if t.val < t1.val + 1 then A.out d else A.o d) : sProp 𝕄) from
        bigSep_congr fun t ht => by
          have hne : t.val ≠ t1.val := fun e => Finset.ne_of_mem_erase ht (Fin.ext e)
          exact congrArg (fun f : Vec F S33030144 .f32 => (oLoc d ↦[oSet L t]{fullShare} f : sProp 𝕄))
            (if_congr (show t.val < t1.val ↔ t.val < t1.val + 1 by omega) rfl rfl)))
      iexact Hrest
  iexists _
  isplitr
  swap; · iexact HO
  ipureintro
  intro p hp
  simp only [Finset.mem_insert] at hp
  rcases hp with rfl | rfl | rfl | rfl | hp
  · exact .inr rfl
  · exact .inr rfl
  · exact .inr rfl
  · exact .inr rfl
  · exact hW' p hp

/-- The task, with its value. -/
theorem tile_body (hF : (K (F := F)).Facts) (hA : A.Ok) (O : CellTallies nD τ sig (HIx 1)) (W : Waits sig (HIx 1)) (hO : ∀ g, O g none = 0) :
    iprop(levAts (K (F := F)).L (K (F := F)).lev ∗ emp ∗ goPts A d L ∗ scopedBufs (thr d L) ∗ scopedSems0 (thr d L) ∗ owes (thr d L) O W)
      ⊢ wp frame (wpE (defs₀ (F := F)) 𝒱₀ (thr d L) none) Set.univ
          (cc0__body L mT (Memref.isWhole_whole _) mU (Memref.isWhole_whole _) mR (Memref.isWhole_whole _) mW (Memref.isWhole_whole _) mB (Memref.isWhole_whole _)
            mO (Memref.isWhole_whole _) sT (Memref.isWhole_whole _) sU (Memref.isWhole_whole _) sR (Memref.isWhole_whole _) sW (Memref.isWhole_whole _)
            sTab (Memref.isWhole_whole _) sOut (Memref.isWhole_whole _) cc0_scoped0 cc0_scoped1 cc0_scoped2 cc0_scoped3 cc0_scoped4 cc0_scoped5)
          fun _ => iprop(tdPts A d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr, ownBufs_thr,
    cc0__body_eq_skeleton]
  unfold cc0__body_skel
  iintro ⟨#Hlv, -, ⟨⟨Ht, Hu, Hr, Hw, Hb⟩, Hout⟩, ⟨⟨%ft, Hst⟩, ⟨%fu, Hsu⟩, ⟨%fr, Hsr⟩, ⟨%fw, Hsw⟩, ⟨%fb, Hsb⟩, ⟨%fo, Hso⟩, Hbufs⟩,
    ⟨H0, H1, H2, H3, H4, H5, Hsems⟩, HO⟩
  ihave Hmw := (show levAts (K (F := F)).L (K (F := F)).lev ⊢ Transfers.MayWaits (thr d L) (default : HIx 1) O from
    (K (F := F)).mayWaits_none (thr := thr d L) hO) $$ Hlv
  ihave Hw := (Entails.of_eq (show (wLoc d ↦{rq L} A.w d : sProp 𝕄) = (mW.view.loc (thr d L) ↦{rq L} A.w d) from rfl)) $$ Hw
  ihave Hb := (Entails.of_eq (show (bLoc d ↦{rq L} A.b d : sProp 𝕄) = (mB.view.loc (thr d L) ↦{rq L} A.b d) from rfl)) $$ Hb
  ihave Hsw := (Entails.of_eq (show ((thr d L).loc cc0_scratch3 ↦{fullShare} fw : sProp 𝕄) = (sW.view.loc (thr d L) ↦{fullShare} fw) from rfl)) $$ Hsw
  ihave Hsb := (Entails.of_eq (show ((thr d L).loc cc0_scratch4 ↦{fullShare} fb : sProp 𝕄) = (sTab.view.loc (thr d L) ↦{fullShare} fb) from rfl)) $$ Hsb
  sl_exec (disch := exact View.amount_pos _ _ (show 0 < S4096.numel by decide))
  ihave Hsw := (Entails.of_eq (show (sW.view.loc (thr d L) ↦{fullShare} sW.view.write (Elt F) fw (tile_body.sl.dma0_1 A d L) Finset.univ : sProp 𝕄)
    = ((thr d L).loc cc0_scratch3 ↦{fullShare} tileW A d L) from congrArg _ (fetch_W A d L fw))) $$ Hsw
  ihave Hsb := (Entails.of_eq (show (sTab.view.loc (thr d L) ↦{fullShare} sTab.view.write (Elt F) fb (tile_body.sl.dma0 A d) Finset.univ : sProp 𝕄)
    = ((thr d L).loc cc0_scratch4 ↦{fullShare} A.b d) from congrArg _ (fetch_B A d fb))) $$ Hsb
  sl_for (inv A d L O W) $$ [Hmw Ht Hu Hr Hsw Hsb Hst Hsu Hsr Hso H2 H3 H4 H5 Hout HO]
  case region =>
    rintro k ⟨⟩
    exact wp_trip A d L hA O W k
  · unfold inv
    isplitl [Hmw]; · iexact Hmw
    isplitl [Ht]; · iexact Ht
    isplitl [Hu]; · iexact Hu
    isplitl [Hr]; · iexact Hr
    isplitl [Hsw]; · iexact Hsw
    isplitl [Hsb]; · iexact Hsb
    isplitl [Hst]; · iexists _; iexact Hst
    isplitl [Hsu]; · iexists _; iexact Hsu
    isplitl [Hsr]; · iexists _; iexact Hsr
    isplitl [Hso]; · iexists _; iexact Hso
    isplitl [H2]; · iexact H2
    isplitl [H3]; · iexact H3
    isplitl [H4]; · iexact H4
    isplitl [H5]; · iexact H5
    isplitl [Hout]
    · iapply (Entails.of_eq (show (outPts d L fun _ => A.o d : sProp 𝕄) = outPts d L (fun t1 => if t1.val < 0 then A.out d else A.o d) from
        bigSep_congr fun t _ =>
          congrArg (fun f : Vec F S33030144 .f32 => (oLoc d ↦[oSet L t]{fullShare} f : sProp 𝕄)) (if_neg (Nat.not_lt_zero _)).symm))
      iexact Hout
    iexists _
    isplitr
    swap; · iexact HO
    ipureintro
    intro p hp
    simp only [Finset.mem_insert] at hp
    rcases hp with rfl | rfl | hp
    · exact .inr rfl
    · exact .inr rfl
    · exact .inl hp
  iintro %_ HI
  unfold inv
  icases HI with ⟨-, Ht, Hu, Hr, Hsw, Hsb, Hst, Hsu, Hsr, Hso, H2, H3, H4, H5, Hout, %W', %hW', HO⟩
  sl_exec
  sl_step
  isplitl [Ht Hu Hr Hw Hb Hout]
  · isplitl [Ht Hu Hr Hw Hb]
    · isplitl [Ht]; · iexact Ht
      isplitl [Hu]; · iexact Hu
      isplitl [Hr]; · iexact Hr
      isplitl [Hw]; · iexact Hw
      iexact Hb
    · iapply (Entails.of_eq (show outPts d L (fun t1 => if t1.val < Scf.trips k0_t1_loop.lb k0_t1_loop.ub k0_t1_loop.st then A.out d else A.o d)
        = (outPts d L fun _ => A.out d : sProp 𝕄) from bigSep_congr fun t _ =>
          congrArg (fun f : Vec F S33030144 .f32 => (oLoc d ↦[oSet L t]{fullShare} f : sProp 𝕄)) (if_pos t.isLt)))
      iexact Hout
  isplitl [Hst Hsu Hsr Hsw Hsb Hso Hbufs]
  · isplitl [Hst]; · iexact Hst
    isplitl [Hsu]; · iexact Hsu
    isplitl [Hsr]; · iexact Hsr
    isplitl [Hsw]; · iexists _; iexact Hsw
    isplitl [Hsb]; · iexists _; iexact Hsb
    isplitl [Hso]; · iexact Hso
    iexact Hbufs
  isplitl [H0 H1 H2 H3 H4 H5 Hsems]
  · isplitl [H0]; · iexact H0
    isplitl [H1]; · iexact H1
    isplitl [H2]; · iexact H2
    isplitl [H3]; · iexact H3
    isplitl [H4]; · iexact H4
    isplitl [H5]; · iexact H5
    iexact Hsems
  iexists W'
  isplitr
  · ipureintro
    exact fun p hp => (hW' p hp).imp_right .inl
  · iexact HO

end Cert.Proof.KernelRun

end
-- ==== Proof.Launch.lean ====
/-
  The whole program's run with its value: the call's operands are dealt to its thirty-two tasks (`tile_body`), each a share of the
  five inputs and its own chunks of the output; the chunks come back as the whole output, which @main reshapes.
-/
module

public import proofs.«01_k».proof.Proof.Tile

@[expose] public section

noncomputable section

namespace Cert.Proof.KernelRun

open Cert.Kernel Cert.Kernel.Gen Cert.Proof.Cells
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type} [FloatOps F]

local notation "𝕄" => MT nD τ sig (HIx 1) (Elt F) ℕ UU ℕ

/-! ## The tasks' coordinates and what the handshakes carry -/

/-- The task at SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The call hands each SparseCore what its sixteen tasks are handed, and each task its shares and chunks. -/
def P (A : Ins F) : (K (F := F)).Pay (nD := nD) (Val := Elt F) (Name := ℕ) (U := UU) where
  st := fun q d c => match q with | 0 => bigSep Finset.univ fun s : Fin (grid0.bound 1) => goPts A d (coordsV c s)
  dn := fun q d c => match q with | 0 => bigSep Finset.univ fun s : Fin (grid0.bound 1) => tdPts A d (coordsV c s)
  go := fun q d c i => match q with | 0 => goPts A d (coordsV c i)
  td := fun q d c i => match q with | 0 => tdPts A d (coordsV c i)
  x := fun _ _ => iprop(emp)

instance P_storable (A : Ins F) : (P (F := F) A).IsStorable where
  st q d c := match q with
    | 0 => (inferInstance : BI.Storable (upEmb : UEmb _ 𝕄) (bigSep Finset.univ fun s : Fin (grid0.bound 1) => goPts A d (coordsV c s)))
  dn q d c := match q with
    | 0 => (inferInstance : BI.Storable (upEmb : UEmb _ 𝕄) (bigSep Finset.univ fun s : Fin (grid0.bound 1) => tdPts A d (coordsV c s)))
  go q d c i := match q with | 0 => (inferInstance : BI.Storable (upEmb : UEmb _ 𝕄) (goPts A d (coordsV c i)))
  td q d c i := match q with | 0 => (inferInstance : BI.Storable (upEmb : UEmb _ 𝕄) (tdPts A d (coordsV c i)))

/-! ## The task's obligation -/

theorem defs₀_vector (c : Fin τ.nSC) (s : Fin τ.nSub) :
    defs₀ (F := F) (.scVector c s) 0 ()
      = SparseCore.onTile hcore0 hsub0 (fun c s => cc0__body (coordsV c s)
          mT (Memref.isWhole_whole _) mU (Memref.isWhole_whole _) mR (Memref.isWhole_whole _) mW (Memref.isWhole_whole _) mB (Memref.isWhole_whole _)
          mO (Memref.isWhole_whole _) sT (Memref.isWhole_whole _) sU (Memref.isWhole_whole _) sR (Memref.isWhole_whole _) sW (Memref.isWhole_whole _)
          sTab (Memref.isWhole_whole _) sOut (Memref.isWhole_whole _) cc0_scoped0 cc0_scoped1 cc0_scoped2 cc0_scoped3 cc0_scoped4 cc0_scoped5) ⟨⟩ c s := rfl

theorem tileObl (A : Ins F) (hA : A.Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) facts hA O W hO

theorem vecSplit (A : Ins F) : (K (F := F)).VecSplit' (P A) 0 := by
  intro d c
  show (bigSep Finset.univ fun s : Fin (grid0.bound 1) => goPts A d (coordsV c s)) ⊢ |={Set.univ}=> iprop(
    (bigSep Finset.univ fun s : Fin (grid0.bound 1) => goPts A d (coordsV c s))
      ∗ ((bigSep Finset.univ fun s : Fin (grid0.bound 1) => tdPts A d (coordsV c s)) -∗ bigSep Finset.univ fun s : Fin (grid0.bound 1) => tdPts A d (coordsV c s)))
  iintro H; imodintro
  isplitl [H]; · iexact H
  iintro H; iexact H

/-! ## The arrays dealt and joined -/

/-- An array read by every task, dealt to the tasks. -/
theorem pts_deal (ℓ : Loc nD τ sig) (f : Buf (Elt F) ℓ) :
    (ℓ ↦{fullShare} f : sProp 𝕄) = bigSep Finset.univ fun c : Fin (grid0.bound 0) => bigSep Finset.univ fun s : Fin (grid0.bound 1) => ℓ ↦{rq (coordsV c s)} f := by
  refine (Transfers.pointsTo_deal (Finset.univ : Finset (Fin (grid0.bound 0))) ⟨⟨0, by decide⟩, Finset.mem_univ _⟩ fullShare).trans (bigSep_congr fun c _ => ?_)
  exact Transfers.pointsTo_deal (Finset.univ : Finset (Fin (grid0.bound 1))) ⟨⟨0, by decide⟩, Finset.mem_univ _⟩ _

/-- Sets that between them hold every element make up the whole. -/
theorem biUnion_eq_univ {α β : Type} [Fintype α] [DecidableEq α] [Fintype β] (f : β → Finset α) (h : ∀ a, ∃ b, a ∈ f b) :
    Finset.univ.biUnion f = Finset.univ :=
  Finset.eq_univ_iff_forall.mpr fun a => let ⟨b, hb⟩ := h a; Finset.mem_biUnion.mpr ⟨b, Finset.mem_univ _, hb⟩

/-- The elements of a task's chunk: the stretch of 32256 that its coordinates and the trip name. -/
theorem mem_oSet (L : grid0.Coords) (t1 : Fin k0_t1_loop.trips) (i : S33030144.Idx) :
    i ∈ oSet L t1 ↔ (i 0).val / 32256 = 64 * (L 1).val + 32 * (L 0).val + t1.val := by
  have h0 : oSet L t1 = (Rect.unit (s := S33030144) (k0_off40 L t1) S32256.size (k0_off40_inb L t1)).set := View.set_slice_whole _ _
  rw [h0, Rect.mem_set_unit]
  have ho : k0_off40 L t1 0 = 2064384 * (L 1).val + 1032192 * (L 0).val + 32256 * t1.val := congrFun (k0_off40_eq L t1) 0
  refine ⟨fun h => ?_, fun h a => ?_⟩
  · have := h 0
    rw [ho] at this
    have h2 : (i 0).val < 2064384 * (L 1).val + 1032192 * (L 0).val + 32256 * t1.val + 32256 := this.2
    have h1 := this.1
    omega
  · obtain rfl : a = 0 := Fin.eq_zero a
    rw [ho]
    show _ ∧ (i 0).val < 2064384 * (L 1).val + 1032192 * (L 0).val + 32256 * t1.val + 32256
    omega

/-- The output as its chunks, task by task. -/
theorem oPts_chunks (d : Dev nD) (f : Vec F S33030144 .f32) :
    (oLoc d ↦{fullShare} f : sProp 𝕄)
      = bigSep Finset.univ fun c : Fin (grid0.bound 0) => bigSep Finset.univ fun s : Fin (grid0.bound 1) => outPts d (coordsV c s) fun _ => f := by
  have hlt : ∀ c : Fin (grid0.bound 0), c.val < 2 := fun c => c.isLt
  have hls : ∀ s : Fin (grid0.bound 1), s.val < 16 := fun s => s.isLt
  let sets : Fin (grid0.bound 0) × Fin (grid0.bound 1) × Fin k0_t1_loop.trips → Finset (Idx (oLoc d)) := fun p => oSet (coordsV p.1 p.2.1) p.2.2
  have hm : ∀ p i, i ∈ sets p ↔ (i 0).val / 32256 = 64 * p.2.1.val + 32 * p.1.val + p.2.2.val := fun p i => mem_oSet (coordsV p.1 p.2.1) p.2.2 i
  have hdis : ∀ p ∈ (Finset.univ : Finset (Fin (grid0.bound 0) × Fin (grid0.bound 1) × Fin k0_t1_loop.trips)), ∀ p' ∈ (Finset.univ : Finset _), p ≠ p' → Disjoint (sets p) (sets p') := by
    intro p _ p' _ hne
    refine Finset.disjoint_left.mpr fun i hi hi' => hne ?_
    rw [hm] at hi hi'
    have := hlt p.1; have := hlt p'.1; have := t1_lt p.2.2; have := t1_lt p'.2.2
    refine Prod.ext (Fin.ext ?_) (Prod.ext (Fin.ext ?_) (Fin.ext ?_)) <;> omega
  have hcov : (Finset.univ : Finset (Fin (grid0.bound 0) × Fin (grid0.bound 1) × Fin k0_t1_loop.trips)).biUnion sets = Finset.univ := by
    refine biUnion_eq_univ sets fun i => ?_
    have hi : (i 0).val < 33030144 := (i 0).isLt
    refine ⟨(⟨(i 0).val / 32256 / 32 % 2, Nat.mod_lt _ (by decide)⟩, ⟨(i 0).val / 32256 / 64, by show _ < 16; omega⟩,
      ⟨(i 0).val / 32256 % 32, by show _ < 32; omega⟩), ?_⟩
    rw [hm]
    show (i 0).val / 32256 = 64 * ((i 0).val / 32256 / 64) + 32 * ((i 0).val / 32256 / 32 % 2) + (i 0).val / 32256 % 32
    omega
  rw [← hcov, pointsTo_biUnion Finset.univ sets hdis, bigSep_univ_prod]
  exact bigSep_congr fun c _ => bigSep_univ_prod _

/-- The six whole arrays, the output at `f`, are what the tasks hold with their chunks at `f`. -/
theorem dealt (A : Ins F) (d : Dev nD) (f : Vec F S33030144 .f32) :
    (bigSep Finset.univ fun c : Fin (grid0.bound 0) => bigSep Finset.univ fun s : Fin (grid0.bound 1) =>
        iprop(insPts A d (coordsV c s) ∗ outPts d (coordsV c s) fun _ => f))
      = (iprop((((tLoc d ↦{fullShare} A.t d) ∗ (uLoc d ↦{fullShare} A.u d) ∗ (rLoc d ↦{fullShare} A.r d) ∗ (wLoc d ↦{fullShare} A.w d) ∗ (bLoc d ↦{fullShare} A.b d))
          ∗ (oLoc d ↦{fullShare} f))) : sProp 𝕄) := by
  rw [oPts_chunks, pts_deal (tLoc d), pts_deal (uLoc d), pts_deal (rLoc d), pts_deal (wLoc d), pts_deal (bLoc d)]
  simp only [bigSep_sep']

theorem st0_eq (A : Ins F) (d : Dev nD) :
    (bigSep Finset.univ fun c : Fin ((K (F := F)).nCore 0) => (P A).st 0 d c)
      = (iprop((((tLoc d ↦{fullShare} A.t d) ∗ (uLoc d ↦{fullShare} A.u d) ∗ (rLoc d ↦{fullShare} A.r d) ∗ (wLoc d ↦{fullShare} A.w d) ∗ (bLoc d ↦{fullShare} A.b d))
          ∗ (oLoc d ↦{fullShare} A.o d))) : sProp 𝕄) := dealt A d (A.o d)
theorem dn0_eq (A : Ins F) (d : Dev nD) :
    (bigSep Finset.univ fun c : Fin ((K (F := F)).nCore 0) => (P A).dn 0 d c)
      = (iprop((((tLoc d ↦{fullShare} A.t d) ∗ (uLoc d ↦{fullShare} A.u d) ∗ (rLoc d ↦{fullShare} A.r d) ∗ (wLoc d ↦{fullShare} A.w d) ∗ (bLoc d ↦{fullShare} A.b d))
          ∗ (oLoc d ↦{fullShare} A.out d))) : sProp 𝕄) := dealt A d (A.out d)

/-! ## The launch element -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ (A : Ins F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-! ## @main -/

variable (m : (ℓ : Loc nD τ sig) → Buf (Elt F) ℓ) (ρ : Dev nD → PrngReg)

/-- An array of device `d` as the launch leaves it. -/
abbrev arr (d : Dev nD) (b : Ref sig .tc) : Buf (Elt F) ((SparseCore.T d : Thread nD τ).loc b) := m ((SparseCore.T d).loc b)

/-- What the call's arrays hold when it starts: the arguments flattened, the rewards repeated sixteen times each. -/
def insOf : Ins F where
  t d := shapeCast S4718592 (arr m d main_arg0 : Vec F S4096x2x24x24 .i32) shapeCasts_S4096x2x24x24_S4718592
  u d := shapeCast S4718592 (arr m d main_arg1 : Vec F S4096x2x24x24 .f32) shapeCasts_S4096x2x24x24_S4718592
  r d := shapeCast S4718592 (arr m d main_arg2 : Vec F S4096x2x24x24 .i32) shapeCasts_S4096x2x24x24_S4718592
  w d := shapeCast S131072 (broadcastInDim S8192x16 ![0] bcast_S8192_S8192x16_0
    (shapeCast S8192 (arr m d main_arg3 : Vec F S4096x2 .f32) shapeCasts_S4096x2_S8192)) shapeCasts_S8192x16_S131072
  b d := shapeCast S16 (arr m d main_arg4 : Vec F S4x4 .f32) shapeCasts_S4x4_S16
  o d := arr m d main_v7

/-- The program's result. -/
def result (d : Dev nD) : Vec F S4096x2x24x24x7 .f32 := shapeCast S4096x2x24x24x7 ((insOf m).out d) shapeCasts_S33030144_S4096x2x24x24x7

abbrev dr (b : Ref sig .tc) : DevRef τ sig := Proc.devRef .tc b

abbrev op0 : HloOp τ sig (Elt F) := StableHlo.reshape main_arg0 main_v0 (rfl : (.i32 : EltTy) = .i32) shapeCasts_S4096x2x24x24_S4718592
abbrev op1 : HloOp τ sig (Elt F) := StableHlo.reshape main_arg1 main_v1 (rfl : (.f32 : EltTy) = .f32) shapeCasts_S4096x2x24x24_S4718592
abbrev op2 : HloOp τ sig (Elt F) := StableHlo.reshape main_arg2 main_v2 (rfl : (.i32 : EltTy) = .i32) shapeCasts_S4096x2x24x24_S4718592
abbrev op3 : HloOp τ sig (Elt F) := StableHlo.reshape main_arg3 main_v3 (rfl : (.f32 : EltTy) = .f32) shapeCasts_S4096x2_S8192
abbrev op4 : HloOp τ sig (Elt F) := StableHlo.unary main_v3 main_v4
  (broadcastInDim S8192x16 ![0] bcast_S8192_S8192x16_0 : (⟨S8192, .f32⟩ : BufTy).Contents (Elt F) → (⟨S8192x16, .f32⟩ : BufTy).Contents (Elt F))
abbrev op5 : HloOp τ sig (Elt F) := StableHlo.reshape main_v4 main_v5 (rfl : (.f32 : EltTy) = .f32) shapeCasts_S8192x16_S131072
abbrev op6 : HloOp τ sig (Elt F) := StableHlo.reshape main_arg4 main_v6 (rfl : (.f32 : EltTy) = .f32) shapeCasts_S4x4_S16
abbrev op8 : HloOp τ sig (Elt F) := StableHlo.reshape main_v7 main_v8 (rfl : (.f32 : EltTy) = .f32) shapeCasts_S33030144_S4096x2x24x24x7

/-- The TensorCore's arrays. -/
abbrev SA : Finset (DevRef τ sig) :=
  {dr main_v0, dr main_v1, dr main_v2, dr main_v5, dr main_v6, dr main_v7, dr main_arg0, dr main_arg1, dr main_arg2, dr main_arg3, dr main_arg4,
    dr main_v8, dr main_v3, dr main_v4}

omit [FloatOps F] in
theorem held_SA (d : Dev nD) (W : Valuation τ sig (Elt F)) :
    (StableHlo.held (T d) SA W : sProp 𝕄)
      = iprop((tLoc d ↦{fullShare} W (dr main_v0)) ∗ (uLoc d ↦{fullShare} W (dr main_v1)) ∗ (rLoc d ↦{fullShare} W (dr main_v2))
        ∗ (wLoc d ↦{fullShare} W (dr main_v5)) ∗ (bLoc d ↦{fullShare} W (dr main_v6)) ∗ (oLoc d ↦{fullShare} W (dr main_v7))
        ∗ ((SparseCore.T d).loc main_arg0 ↦{fullShare} W (dr main_arg0)) ∗ ((SparseCore.T d).loc main_arg1 ↦{fullShare} W (dr main_arg1))
        ∗ ((SparseCore.T d).loc main_arg2 ↦{fullShare} W (dr main_arg2)) ∗ ((SparseCore.T d).loc main_arg3 ↦{fullShare} W (dr main_arg3))
        ∗ ((SparseCore.T d).loc main_arg4 ↦{fullShare} W (dr main_arg4)) ∗ ((SparseCore.T d).loc main_v8 ↦{fullShare} W (dr main_v8))
        ∗ ((SparseCore.T d).loc main_v3 ↦{fullShare} W (dr main_v3)) ∗ ((SparseCore.T d).loc main_v4 ↦{fullShare} W (dr main_v4))) := by
  unfold StableHlo.held SA
  repeat rw [SparseCore.bigSep_insert' (by decide)]
  rw [bigSep_singleton]

/-- The launch valuation, the one before the call and the one after it. -/
def V0 (d : Dev nD) : Valuation τ sig (Elt F) := fun b => m (d, b)
abbrev V7 (d : Dev nD) : Valuation τ sig (Elt F) :=
  (op6 (F := F)).result ((op5 (F := F)).result ((op4 (F := F)).result ((op3 (F := F)).result ((op2 (F := F)).result ((op1 (F := F)).result ((op0 (F := F)).result (V0 m d)))))))
def V8 (d : Dev nD) : Valuation τ sig (Elt F) := Function.update (V7 m d) (dr main_v7) ((insOf m).out d)

omit [FloatOps F] in
theorem unscoped_held (d : Dev nD) : (unscopedBufs d (fun b => m ((SparseCore.T d).loc b)) : sProp 𝕄) = StableHlo.held (T d) SA (V0 m d) := by
  rw [held_SA]
  unfold unscopedBufs
  rw [show (Finset.univ.filter fun b : Ref sig .tc => ¬ b.isScoped)
    = {main_v0, main_v1, main_v2, main_v5, main_v6, main_v7, main_arg0, main_arg1, main_arg2, main_arg3, main_arg4, main_v8, main_v3, main_v4} by decide]
  repeat rw [SparseCore.bigSep_insert' (by decide)]
  rw [bigSep_singleton]
  rfl

end Cert.Proof.KernelRun

end
-- ==== Proof.Main.lean ====
/-
  @main's run with its value: seven host operations lay the arguments out, the call fills the output array, a last one reshapes it.
-/
module

public import proofs.«01_k».proof.Proof.Launch
public import Idealize.ShloMosaic.Lib.SparseCore.Quiescent
public import Idealize.ShloMosaic.Lib.StableHlo.Run

@[expose] public section

noncomputable section

namespace Cert.Proof.KernelRun

open Cert.Kernel Cert.Kernel.Gen Cert.Proof.Cells
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values between @main's operations -/

theorem op0_sub : (op0 (F := F)).bufs ⊆ SA := show ({dr main_arg0, dr main_v0} : Finset (DevRef τ sig)) ⊆ SA by decide
theorem op1_sub : (op1 (F := F)).bufs ⊆ SA := show ({dr main_arg1, dr main_v1} : Finset (DevRef τ sig)) ⊆ SA by decide
theorem op2_sub : (op2 (F := F)).bufs ⊆ SA := show ({dr main_arg2, dr main_v2} : Finset (DevRef τ sig)) ⊆ SA by decide
theorem op3_sub : (op3 (F := F)).bufs ⊆ SA := show ({dr main_arg3, dr main_v3} : Finset (DevRef τ sig)) ⊆ SA by decide
theorem op4_sub : (op4 (F := F)).bufs ⊆ SA := show ({dr main_v3, dr main_v4} : Finset (DevRef τ sig)) ⊆ SA by decide
theorem op5_sub : (op5 (F := F)).bufs ⊆ SA := show ({dr main_v4, dr main_v5} : Finset (DevRef τ sig)) ⊆ SA by decide
theorem op6_sub : (op6 (F := F)).bufs ⊆ SA := show ({dr main_arg4, dr main_v6} : Finset (DevRef τ sig)) ⊆ SA by decide
theorem op8_sub : (op8 (F := F)).bufs ⊆ SA := show ({dr main_v7, dr main_v8} : Finset (DevRef τ sig)) ⊆ SA by decide

/-- The call's arrays before the call, from the launch memory. -/
theorem V7_t (d : Dev nD) : V7 m d (dr main_v0) = (insOf m).t d := by
  simp (disch := decide) only [V7, StableHlo.reshape_result_ne', StableHlo.unary_result_ne']
  rw [StableHlo.reshape_result']
  rfl
theorem V7_u (d : Dev nD) : V7 m d (dr main_v1) = (insOf m).u d := by
  simp (disch := decide) only [V7, StableHlo.reshape_result_ne', StableHlo.unary_result_ne']
  rw [StableHlo.reshape_result']
  simp (disch := decide) only [StableHlo.reshape_result_ne']
  rfl
theorem V7_r (d : Dev nD) : V7 m d (dr main_v2) = (insOf m).r d := by
  simp (disch := decide) only [V7, StableHlo.reshape_result_ne', StableHlo.unary_result_ne']
  rw [StableHlo.reshape_result']
  simp (disch := decide) only [StableHlo.reshape_result_ne']
  rfl
theorem V7_w (d : Dev nD) : V7 m d (dr main_v5) = (insOf m).w d := by
  simp (disch := decide) only [V7, StableHlo.reshape_result_ne']
  rw [StableHlo.reshape_result', StableHlo.unary_result', StableHlo.reshape_result']
  simp (disch := decide) only [StableHlo.reshape_result_ne']
  rfl
theorem V7_b (d : Dev nD) : V7 m d (dr main_v6) = (insOf m).b d := by
  unfold V7
  rw [StableHlo.reshape_result']
  simp (disch := decide) only [StableHlo.reshape_result_ne', StableHlo.unary_result_ne']
  rfl
theorem V7_o (d : Dev nD) : V7 m d (dr main_v7) = (insOf m).o d := by
  simp (disch := decide) only [V7, StableHlo.reshape_result_ne', StableHlo.unary_result_ne']
  rfl

/-- The call changes its output array alone. -/
theorem V8_o (d : Dev nD) : V8 m d (dr main_v7) = (insOf m).out d := Function.update_self _ _ _
theorem V8_ne (d : Dev nD) {b : Ref sig .tc} (h : dr b ≠ dr main_v7) : V8 m d (dr b) = V7 m d (dr b) := Function.update_of_ne h _ _

/-- The result array at the end. -/
theorem V9_result (d : Dev nD) : (op8 (F := F)).result (V8 m d) (dr main_v8) = result m d := by
  rw [StableHlo.reshape_result', show V8 m d (Proc.devRef .tc main_v7) = _ from V8_o m d]
  rfl

/-- An argument, never written, at the end. -/
theorem V9_arg (d : Dev nD) (b : Ref sig .tc) (h : b = main_arg0 ∨ b = main_arg1 ∨ b = main_arg2 ∨ b = main_arg3 ∨ b = main_arg4) :
    (op8 (F := F)).result (V8 m d) (dr b) = arr m d b := by
  rcases h with rfl | rfl | rfl | rfl | rfl <;>
  · rw [StableHlo.reshape_result_ne' _ _ _ _ _ (by decide), V8_ne m d (by decide)]
    simp (disch := decide) only [V7, StableHlo.reshape_result_ne', StableHlo.unary_result_ne']
    rfl

/-! ## @main -/

/-- What @main leaves the claim: the arguments as the launch left them, the result array at the result. -/
abbrev FIN (d : Dev nD) : sProp 𝕄 :=
  iprop(((SparseCore.T d).loc main_arg0 ↦{fullShare} arr m d main_arg0) ∗ ((SparseCore.T d).loc main_arg1 ↦{fullShare} arr m d main_arg1)
    ∗ ((SparseCore.T d).loc main_arg2 ↦{fullShare} arr m d main_arg2) ∗ ((SparseCore.T d).loc main_arg3 ↦{fullShare} arr m d main_arg3)
    ∗ ((SparseCore.T d).loc main_arg4 ↦{fullShare} arr m d main_arg4) ∗ ((SparseCore.T d).loc main_v8 ↦{fullShare} result m d))

/-- What @main holds besides the call's arrays while the call runs. -/
abbrev besides (d : Dev nD) : sProp 𝕄 :=
  iprop(((SparseCore.T d).loc main_arg0 ↦{fullShare} V7 m d (dr main_arg0)) ∗ ((SparseCore.T d).loc main_arg1 ↦{fullShare} V7 m d (dr main_arg1))
    ∗ ((SparseCore.T d).loc main_arg2 ↦{fullShare} V7 m d (dr main_arg2)) ∗ ((SparseCore.T d).loc main_arg3 ↦{fullShare} V7 m d (dr main_arg3))
    ∗ ((SparseCore.T d).loc main_arg4 ↦{fullShare} V7 m d (dr main_arg4)) ∗ ((SparseCore.T d).loc main_v8 ↦{fullShare} V7 m d (dr main_v8))
    ∗ ((SparseCore.T d).loc main_v3 ↦{fullShare} V7 m d (dr main_v3)) ∗ ((SparseCore.T d).loc main_v4 ↦{fullShare} V7 m d (dr main_v4)))

/-- The arrays before the call: the call's six, and the rest. -/
theorem held_V7 (d : Dev nD) : (StableHlo.held (T d) SA (V7 m d) : sProp 𝕄)
    ⊢ iprop((bigSep Finset.univ fun c : Fin ((K (F := F)).nCore 0) => (P (insOf m)).st 0 d c) ∗ besides m d) := by
  rw [st0_eq, held_SA, V7_t, V7_u, V7_r, V7_w, V7_b, V7_o]
  iintro ⟨Ht, Hu, Hr, Hw, Hb, Ho, Hrest⟩
  isplitr [Hrest]
  · isplitr [Ho]
    · isplitl [Ht]; · iexact Ht
      isplitl [Hu]; · iexact Hu
      isplitl [Hr]; · iexact Hr
      isplitl [Hw]; · iexact Hw
      iexact Hb
    · iexact Ho
  · iexact Hrest

/-- The arrays after the call. -/
theorem held_V8 (d : Dev nD) :
    iprop((bigSep Finset.univ fun c : Fin ((K (F := F)).nCore 0) => (P (insOf m)).dn 0 d c) ∗ besides m d) ⊢ (StableHlo.held (T d) SA (V8 m d) : sProp 𝕄) := by
  rw [dn0_eq, held_SA, V8_o, V8_ne m d (b := main_v0) (by decide), V8_ne m d (b := main_v1) (by decide), V8_ne m d (b := main_v2) (by decide),
    V8_ne m d (b := main_v5) (by decide), V8_ne m d (b := main_v6) (by decide), V8_ne m d (b := main_arg0) (by decide), V8_ne m d (b := main_arg1) (by decide),
    V8_ne m d (b := main_arg2) (by decide), V8_ne m d (b := main_arg3) (by decide), V8_ne m d (b := main_arg4) (by decide), V8_ne m d (b := main_v8) (by decide),
    V8_ne m d (b := main_v3) (by decide), V8_ne m d (b := main_v4) (by decide), V7_t, V7_u, V7_r, V7_w, V7_b]
  iintro ⟨⟨⟨Ht, Hu, Hr, Hw, Hb⟩, Ho⟩, Hrest⟩
  isplitl [Ht]; · iexact Ht
  isplitl [Hu]; · iexact Hu
  isplitl [Hr]; · iexact Hr
  isplitl [Hw]; · iexact Hw
  isplitl [Hb]; · iexact Hb
  isplitl [Ho]; · iexact Ho
  iexact Hrest

/-- The arrays at the end hold what @main leaves the claim. -/
theorem held_V9 (d : Dev nD) : (StableHlo.held (T d) SA ((op8 (F := F)).result (V8 m d)) : sProp 𝕄) ⊢ FIN m d := by
  rw [held_SA, V9_result, V9_arg m d main_arg0 (by decide), V9_arg m d main_arg1 (by decide), V9_arg m d main_arg2 (by decide),
    V9_arg m d main_arg3 (by decide), V9_arg m d main_arg4 (by decide)]
  iintro ⟨-, -, -, -, -, -, H0, H1, H2, H3, H4, H8, -, -⟩
  isplitl [H0]; · iexact H0
  isplitl [H1]; · iexact H1
  isplitl [H2]; · iexact H2
  isplitl [H3]; · iexact H3
  isplitl [H4]; · iexact H4
  iexact H8

/-- @main on device `d`'s TensorCore: the layouts, the call, the last reshape. -/
theorem hmain (κ : GSem nD τ sig → ℕ) (d : Dev nD) :
    iprop((K (F := F)).ctx EH (P (insOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SA) op0_sub) $$ [Hb Hheld]
  · isplitl [Hb] <;> iassumption
  iintro ⟨Hb, Hheld⟩
  rw [wp_ret]; imodintro
  iapply (wp_hlo_within 𝒱 (SparseCore.T d) none Set.univ (op := op1) (S := SA) op1_sub) $$ [Hb Hheld]
  · isplitl [Hb] <;> iassumption
  iintro ⟨Hb, Hheld⟩
  rw [wp_ret]; imodintro
  iapply (wp_hlo_within 𝒱 (SparseCore.T d) none Set.univ (op := op2) (S := SA) op2_sub) $$ [Hb Hheld]
  · isplitl [Hb] <;> iassumption
  iintro ⟨Hb, Hheld⟩
  rw [wp_ret]; imodintro
  iapply (wp_hlo_within 𝒱 (SparseCore.T d) none Set.univ (op := op3) (S := SA) op3_sub) $$ [Hb Hheld]
  · isplitl [Hb] <;> iassumption
  iintro ⟨Hb, Hheld⟩
  rw [wp_ret]; imodintro
  iapply (wp_hlo_within 𝒱 (SparseCore.T d) none Set.univ (op := op4) (S := SA) op4_sub) $$ [Hb Hheld]
  · isplitl [Hb] <;> iassumption
  iintro ⟨Hb, Hheld⟩
  rw [wp_ret]; imodintro
  iapply (wp_hlo_within 𝒱 (SparseCore.T d) none Set.univ (op := op5) (S := SA) op5_sub) $$ [Hb Hheld]
  · isplitl [Hb] <;> iassumption
  iintro ⟨Hb, Hheld⟩
  rw [wp_ret]; imodintro
  iapply (wp_hlo_within 𝒱 (SparseCore.T d) none Set.univ (op := op6) (S := SA) op6_sub) $$ [Hb Hheld]
  · isplitl [Hb] <;> iassumption
  iintro ⟨Hb, Hheld⟩
  rw [wp_ret]; imodintro
  ihave Hh := (show (StableHlo.held (T d) SA _ : sProp 𝕄) ⊢ _ from held_V7 m d) $$ Hheld
  icases Hh with ⟨Hin, Hrest⟩
  iapply ((K (F := F)).wp_run (D (F := F)) 𝒱 (EH := EH) (P := P (insOf m)) κ d 0) $$ [Hst Hin Hb Hrest Hts]
  isplitr; · iexact Hctx
  isplitl [Hst]; · iexact Hst
  isplitl [Hin]; · iexact Hin
  iintro ⟨Hst, Hdn⟩
  ihave Hheld := (held_V8 m d) $$ [Hdn Hrest]
  · isplitl [Hdn] <;> iassumption
  iapply (wp_hlo_within 𝒱 (SparseCore.T d) none Set.univ (op := op8) (S := SA) op8_sub) $$ [Hb Hheld]
  · isplitl [Hb] <;> iassumption
  iintro ⟨Hb, Hheld⟩
  ihave Hfin := (held_V9 m d) $$ Hheld
  rw [wp_ret]; imodintro; imodintro
  isplitl [Hst]; · iexact Hst
  isplitl [Hfin]; · iexact Hfin
  isplitl [Hb] <;> iassumption

/-! ## The run -/

/-- An array held whole is what the memory has there, and the memory's account is kept. -/
theorem agree (s' : Phys nD τ sig (Elt F)) {ℓ : Loc nD τ sig} (f : Buf (Elt F) ℓ) :
    (iprop((ℓ ↦{fullShare} f) ∗ SI s') : sProp 𝕄) ⊢ iprop(⌜s'.mem.mem ℓ = f⌝ ∗ SI s') := by
  have h : (iprop((ℓ ↦{fullShare} f) ∗ SI s') : sProp 𝕄) ⊢ iprop(⌜s'.mem.mem ℓ = f⌝) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  exact (persistent_entails_right h).trans (sep_mono_right sep_elim_right)

/-- The device's memory at the end: the arguments unchanged, the result array at the result. -/
def fq (d : Dev nD) (s' : Phys nD τ sig (Elt F)) : Prop :=
  s'.mem.mem ((SparseCore.T d).loc main_v8) = result m d
    ∧ s'.mem.mem ((SparseCore.T d).loc main_arg0) = arr m d main_arg0 ∧ s'.mem.mem ((SparseCore.T d).loc main_arg1) = arr m d main_arg1
    ∧ s'.mem.mem ((SparseCore.T d).loc main_arg2) = arr m d main_arg2 ∧ s'.mem.mem ((SparseCore.T d).loc main_arg3) = arr m d main_arg3
    ∧ s'.mem.mem ((SparseCore.T d).loc main_arg4) = arr m d main_arg4

theorem hfin (d : Dev nD) (s' : Phys nD τ sig (Elt F)) : iprop(FIN m d ∗ SI s') ⊢ (⌜fq m d s'⌝ : sProp 𝕄) := by
  iintro ⟨⟨H0, H1, H2, H3, H4, H8⟩, HSI⟩
  ihave H := (agree s' (arr m d main_arg0)) $$ [H0 HSI]
  · isplitl [H0] <;> iassumption
  icases H with ⟨%h0, HSI⟩
  ihave H := (agree s' (arr m d main_arg1)) $$ [H1 HSI]
  · isplitl [H1] <;> iassumption
  icases H with ⟨%h1, HSI⟩
  ihave H := (agree s' (arr m d main_arg2)) $$ [H2 HSI]
  · isplitl [H2] <;> iassumption
  icases H with ⟨%h2, HSI⟩
  ihave H := (agree s' (arr m d main_arg3)) $$ [H3 HSI]
  · isplitl [H3] <;> iassumption
  icases H with ⟨%h3, HSI⟩
  ihave H := (agree s' (arr m d main_arg4)) $$ [H4 HSI]
  · isplitl [H4] <;> iassumption
  icases H with ⟨%h4, HSI⟩
  ihave H := (agree s' (ℓ := (SparseCore.T d).loc main_v8) (result m d)) $$ [H8 HSI]
  · isplitl [H8] <;> iassumption
  icases H with ⟨%h8, -⟩
  ipureintro; exact ⟨h8, h0, h1, h2, h3, h4⟩

/-- Every run of the program ends, with the arguments unchanged, the result array at `result` and the semaphores at rest, when the
    tile types are below 4. -/
theorem run_main [∀ e, Nonempty (Elt F e)] (hA : (insOf m).Ok) :
    θ_run (Cert.Kernel.defs (F := F)) (Cert.Kernel.threads (F := F)) ⟨m, fun _ => 0, ρ⟩ (fun r => (∀ d : Dev nD,
      r.2.mem ((SparseCore.T d).loc main_v8) = result m d
        ∧ r.2.mem ((SparseCore.T d).loc main_arg0) = arr m d main_arg0 ∧ r.2.mem ((SparseCore.T d).loc main_arg1) = arr m d main_arg1
        ∧ r.2.mem ((SparseCore.T d).loc main_arg2) = arr m d main_arg2 ∧ r.2.mem ((SparseCore.T d).loc main_arg3) = arr m d main_arg3
        ∧ r.2.mem ((SparseCore.T d).loc main_arg4) = arr m d main_arg4) ∧ r.2.sem = fun _ => 0) :=
  SparseCore.Cfg.θ_run_sc_quiescent (K := K (F := F)) (D := D (F := F)) (𝒱 := 𝒱) (EH := EH) (P := P (insOf m)) (A := ∅) facts v₀
    (fun q hq => match q with | 0 => nomatch hq)
    (fun q _ => match q with | 0 => tileObl (insOf m) hA)
    (fun q _ => match q with | 0 => SparseCore.Cfg.VecSplit.of_plain (vecSplit (insOf m)))
    m ρ main (fun _ => iprop(emp)) (FIN m) (u₀ (F := F)) (sep_elim_left.trans (hu₀ (insOf m))) (hmain m ρ) (fq m) (hfin m) _ (fun _ h hz => ⟨h, hz⟩)

end Cert.Proof.KernelRun

end
-- ==== Proof.Row.lean ====
/-
  The result as a function of the five argument arrays, entry by entry; what the precondition says; and how a fold by `and` reads.
-/
module

public import proofs.«01_k».proof.Pre_in_types
public import Idealize.ShloMosaic.Lib.Pipeline.Value

@[expose] public section

noncomputable section

namespace Cert.Proof.Row

open Idealize.ShloMosaic

abbrev Board : Shape := ⟨4, ![4096, 2, 24, 24]⟩
abbrev Rows : Shape := ⟨5, ![4096, 2, 24, 24, 7]⟩
abbrev Envs : Shape := ⟨2, ![4096, 2]⟩
abbrev Table : Shape := ⟨2, ![4, 4]⟩

/-- The board position an output entry belongs to. -/
def pos {n : ℕ} (i : (⟨5, ![4096, 2, 24, 24, n]⟩ : Shape).Idx) : Board.Idx := fun
  | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩

/-- The environment an output entry belongs to. -/
def env {n : ℕ} (i : (⟨5, ![4096, 2, 24, 24, n]⟩ : Shape).Idx) : Envs.Idx := fun
  | ⟨0, _⟩ => ⟨(i 0).val, (i 0).isLt⟩ | ⟨1, _⟩ => ⟨(i 1).val, (i 1).isLt⟩

/-- The table's entry at row `n`, column `k`. -/
def entry (n k : ℕ) : Table.Idx := fun
  | ⟨0, _⟩ => ⟨n % 4, Nat.mod_lt _ (by decide)⟩ | ⟨1, _⟩ => ⟨k % 4, Nat.mod_lt _ (by decide)⟩

/-- The result at an index: of its position's seven numbers — the table's row of the tile type, the unit count, the relic flag as a
    number, the environment's reward — the one its last coordinate picks. -/
def row {F : FTy → Type} [FloatOps F] (a0 : Board.Idx → BitVec 32) (a1 : Board.Idx → F .f32) (a2 : Board.Idx → BitVec 32) (a3 : Envs.Idx → F .f32)
    (a4 : Table.Idx → F .f32) (i : Rows.Idx) : F .f32 :=
  if (i 4).val < 4 then a4 (entry (a0 (pos i)).toNat (i 4).val) else if (i 4).val = 4 then a1 (pos i)
  else if (i 4).val = 5 then FloatOps.sitofp .f32 (a2 (pos i)) else a3 (env i)

/-- A conjunction of two bits. -/
theorem andi_eq_one (a b : BitVec 1) : IntOp.andi a b = 1#1 ↔ a = 1#1 ∧ b = 1#1 := by
  revert a b; decide

/-- A fold by `and` is one exactly when it starts at one and meets ones only. -/
theorem foldl_andi {L : Type} (f : L → BitVec 1) (ls : List L) (a : BitVec 1) :
    ls.foldl (fun r n => IntOp.andi r (f n)) a = 1#1 ↔ a = 1#1 ∧ ∀ n ∈ ls, f n = 1#1 := by
  induction ls generalizing a with
  | nil => simp
  | cons l ls ih => rw [List.foldl_cons, ih, andi_eq_one, List.forall_mem_cons, and_assoc]

/-- A word that is at least 0 and below 4 as a signed number is below 4. -/
theorem lt_four (w : BitVec 32) (h0 : IntOp.cmpi .sge w 0#32 = 1#1) (h4 : IntOp.cmpi .slt w 4#32 = 1#1) : w.toNat < 4 := by
  have h0' : BitVec.ofBool ((0#32).sle w) = 1#1 := h0
  have h4' : BitVec.ofBool (w.slt 4#32) = 1#1 := h4
  have hs : (0#32).sle w = true := by revert h0'; cases (0#32).sle w <;> decide
  have ht : w.slt 4#32 = true := by revert h4'; cases w.slt 4#32 <;> decide
  rw [BitVec.sle_iff_toInt_le] at hs
  rw [BitVec.slt_iff_toInt_lt] at ht
  have e0 : (0#32).toInt = 0 := by decide
  have e4 : (4#32).toInt = 4 := by decide
  rw [e0] at hs; rw [e4] at ht
  rw [BitVec.toInt_eq_toNat_cond] at hs ht
  have := w.isLt
  split at hs <;> omega

/-- The precondition: every tile type is below 4. -/
theorem in_range {F : FTy → Type} [FloatOps F] [Cert.Pre_in_types.Facts] (a0 : Board.Idx → BitVec 32) (a1 : Board.Idx → F .f32) (a2 : Board.Idx → BitVec 32)
    (a3 : Envs.Idx → F .f32) (a4 : Table.Idx → F .f32) (h : Cert.Pre_in_types.fn (F := F) a0 a1 a2 a3 a4 = fun _ => 1#1) (p : Board.Idx) : (a0 p).toNat < 4 := by
  have h1 := congrFun h (fun a => a.elim0)
  unfold Cert.Pre_in_types.fn Host.reduce at h1
  have h2 := ((foldl_andi _ _ _).mp h1).2 (Board.rowMajor p) (List.mem_filter.mpr ⟨List.mem_finRange _, decide_eq_true (funext fun a => a.elim0)⟩)
  rw [Equiv.symm_apply_apply] at h2
  have h3 := (andi_eq_one _ _).mp h2
  exact lt_four _ h3.1 h3.2

end Cert.Proof.Row

end
-- ==== Proof.Algebraic.lean ====
/-
  The kernel's result, entry by entry: with tile types in range it is `Row.row` of the arguments.
-/
module

public import proofs.«01_k».proof.Proof.Row
public import proofs.«01_k».proof.Proof.Main

@[expose] public section

noncomputable section

namespace Cert.Proof.KernelRun

open Cert.Kernel Cert.Kernel.Gen Cert.Proof.Cells Cert.Proof.Row
open Idealize.ShloMosaic

variable {F : FTy → Type} [FloatOps F]

/-- The board flattened, at a position. -/
theorem board_apply {α : Type} (x : S4096x2x24x24.Idx → α) (p : S4096x2x24x24.Idx) :
    shapeCast S4718592 x shapeCasts_S4096x2x24x24_S4718592 (ix ((((p 0).val * 2 + (p 1).val) * 24 + (p 2).val) * 24 + (p 3).val)) = x p := by
  have h0 : (p 0).val < 4096 := (p 0).isLt
  have h1 : (p 1).val < 2 := (p 1).isLt
  have h2 : (p 2).val < 24 := (p 2).isLt
  have h3 : (p 3).val < 24 := (p 3).isLt
  refine shapeCast_apply _ _ _ p ?_
  rw [Shape.rowMajor_val_four, Shape.rowMajor_val_one]
  show (((p 0).val * 2 + (p 1).val) * 24 + (p 2).val) * 24 + (p 3).val = ((((p 0).val * 2 + (p 1).val) * 24 + (p 2).val) * 24 + (p 3).val) % 4718592
  omega

/-- The table flattened, at the row of a number below 4. -/
theorem table_apply {α : Type} (x : S4x4.Idx → α) (n j : ℕ) (hn : n < 4) (hj : j < 4) : shapeCast S16 x shapeCasts_S4x4_S16 (ix (4 * n + j)) = x (entry n j) := by
  refine shapeCast_apply _ _ _ (entry n j) ?_
  rw [Shape.rowMajor_val_two, Shape.rowMajor_val_one]
  show n % 4 * 4 + j % 4 = (4 * n + j) % 16
  omega

/-- The rewards flattened and repeated sixteen times each, at one of environment `e`'s sixteen. -/
theorem rewards_apply {α : Type} (x : S4096x2.Idx → α) (e : S4096x2.Idx) (k : ℕ) (hk : k < 16) :
    shapeCast S131072 (broadcastInDim S8192x16 ![0] bcast_S8192_S8192x16_0 (shapeCast S8192 x shapeCasts_S4096x2_S8192)) shapeCasts_S8192x16_S131072
      (ix (16 * ((e 0).val * 2 + (e 1).val) + k)) = x e := by
  have h0 : (e 0).val < 4096 := (e 0).isLt
  have h1 : (e 1).val < 2 := (e 1).isLt
  let l : S8192x16.Idx := fun
    | ⟨0, _⟩ => ⟨(e 0).val * 2 + (e 1).val, by show _ < 8192; omega⟩ | ⟨1, _⟩ => ⟨k, hk⟩
  rw [shapeCast_apply _ _ _ l, broadcastInDim_apply _ _ _ l (ix ((e 0).val * 2 + (e 1).val)), shapeCast_apply _ _ _ e]
  · rw [Shape.rowMajor_val_two, Shape.rowMajor_val_one]
    show (e 0).val * 2 + (e 1).val = ((e 0).val * 2 + (e 1).val) % 8192
    omega
  · intro a
    obtain rfl : a = 0 := Fin.eq_zero a
    show ((e 0).val * 2 + (e 1).val) % 8192 = (e 0).val * 2 + (e 1).val
    omega
  · rw [Shape.rowMajor_val_two, Shape.rowMajor_val_one]
    show ((e 0).val * 2 + (e 1).val) * 16 + k = (16 * ((e 0).val * 2 + (e 1).val) + k) % 131072
    omega

variable (m : (ℓ : Loc nD τ sig) → Buf (Elt F) ℓ)

/-- Tile types below 4 stay so when flattened. -/
theorem insOf_ok (h : ∀ (d : Dev nD) (p : S4096x2x24x24.Idx), BitVec.toNat ((arr m d main_arg0 : Vec F S4096x2x24x24 .i32) p) < 4) : (insOf m).Ok :=
  fun d _ => h d _

/-- With tile types below 4 the kernel's result is `row` at every index. -/
theorem result_eq (d : Dev nD) (h : ∀ p : S4096x2x24x24.Idx, BitVec.toNat ((arr m d main_arg0 : Vec F S4096x2x24x24 .i32) p) < 4) :
    result m d = row (F := F) (arr m d main_arg0) (arr m d main_arg1) (arr m d main_arg2) (arr m d main_arg3) (arr m d main_arg4) := by
  funext i
  have h0 : (i 0).val < 4096 := (i 0).isLt
  have h1 : (i 1).val < 2 := (i 1).isLt
  have h2 : (i 2).val < 24 := (i 2).isLt
  have h3 : (i 3).val < 24 := (i 3).isLt
  have h4 : (i 4).val < 7 := (i 4).isLt
  obtain ⟨p, hp⟩ : ∃ p, p = (((i 0).val * 2 + (i 1).val) * 24 + (i 2).val) * 24 + (i 3).val := ⟨_, rfl⟩
  have hk : result m d i = cell ((insOf m).b d) (fun p => (insOf m).t d (ix p)) (fun p => (insOf m).u d (ix p)) (fun p => (insOf m).r d (ix p))
      (fun p => (insOf m).w d (ix (16 * (p / 576) + p % 16))) p (i 4).val := by
    unfold result
    rw [shapeCast_apply _ _ i (ix (7 * p + (i 4).val))]
    · have e : (7 * p + (i 4).val) % 33030144 = 7 * p + (i 4).val := by omega
      have e1 : (7 * p + (i 4).val) / 7 = p := by omega
      have e2 : (7 * p + (i 4).val) % 7 = (i 4).val := by omega
      have e0 : (((ix (7 * p + (i 4).val) : S33030144.Idx)) 0).val = 7 * p + (i 4).val := e
      unfold Ins.out flat
      rw [e0, e1, e2]
    · rw [Shape.rowMajor_val_five, Shape.rowMajor_val_one]
      show (7 * p + (i 4).val) % 33030144 = ((((i 0).val * 2 + (i 1).val) * 24 + (i 2).val) * 24 + (i 3).val) * 7 + (i 4).val
      omega
  have hb : ∀ {α : Type} (x : S4096x2x24x24.Idx → α), shapeCast S4718592 x shapeCasts_S4096x2x24x24_S4718592 (ix p) = x (Row.pos i) := fun x => by
    rw [hp]; exact board_apply x (Row.pos i)
  have he : 16 * (p / 576) + p % 16 = 16 * ((env i 0).val * 2 + (env i 1).val) + p % 16 := by
    have : p / 576 = (i 0).val * 2 + (i 1).val := by omega
    rw [this]; rfl
  have ht : (insOf m).t d (ix p) = (arr m d main_arg0 : Vec F S4096x2x24x24 .i32) (Row.pos i) := hb _
  rw [hk]
  unfold cell row
  dsimp only
  rw [ht, he]
  by_cases c4 : (i 4).val < 4
  · rw [if_pos c4, if_pos c4]
    exact table_apply _ _ _ (h _) c4
  rw [if_neg c4, if_neg c4]
  by_cases c5 : (i 4).val = 4
  · rw [if_pos c5, if_pos c5]
    exact hb _
  rw [if_neg c5, if_neg c5]
  by_cases c6 : (i 4).val = 5
  · rw [if_pos c6, if_pos c6]
    exact congrArg (FloatOps.sitofp .f32) (hb _)
  · rw [if_neg c6, if_neg c6]
    exact rewards_apply _ (env i) _ (Nat.mod_lt _ (by decide))

end Cert.Proof.KernelRun

end
-- ==== Proof.Reference.lean ====
/-
  The reference's result, entry by entry: its composed term (the generated run's) is `Row.row` of the arguments.
-/
module

public import proofs.«01_k».proof.Proof.Row
public import proofs.«01_k».proof.Proof.Gen.ReferenceIdeal.Run

@[expose] public section

noncomputable section

namespace Cert.Proof.Reference

open Idealize.ShloMosaic Cert.ReferenceIdeal Cert.ReferenceIdeal.Gen Cert.Proof.Row

variable {F : FTy → Type} [FloatOps F]

/-! ## The pieces read at an index -/

/-- The table's rows gathered by start indices that are below 4. -/
theorem gather_apply (x : FVec F S4x4 .f32) (w : IVec S4096x2x24x24x1 32) (i : S4096x2x24x24x4.Idx) (j : S4096x2x24x24x1.Idx)
    (h0 : (j 0).val = (i 0).val) (h1 : (j 1).val = (i 1).val) (h2 : (j 2).val = (i 2).val) (h3 : (j 3).val = (i 3).val) (hw : (w j).toNat < 4) :
    Host.gather gather_S4x4_S4096x2x24x24x1_S4096x2x24x24x4_4_0_n_n_0_4_14 x w i = x (entry (w j).toNat (i 4).val) := by
  have hsi : gather_S4x4_S4096x2x24x24x1_S4096x2x24x24x4_4_0_n_n_0_4_14.siIdx i
      ⟨List.idxOf (0 : Fin 2) gather_S4x4_S4096x2x24x24x1_S4096x2x24x24x4_4_0_n_n_0_4_14.startIndexMap, List.idxOf_lt_length_iff.2 (List.mem_singleton.mpr rfl)⟩ = j := by
    funext b; refine Fin.ext ?_
    match b with
    | ⟨0, _⟩ => exact h0.symm
    | ⟨1, _⟩ => exact h1.symm
    | ⟨2, _⟩ => exact h2.symm
    | ⟨3, _⟩ => exact h3.symm
    | ⟨4, _⟩ =>
      have hj : (j 4).val < 1 := (j 4).isLt
      show 0 = (j 4).val
      omega
  unfold Host.gather
  refine congrArg x (funext fun a => Fin.ext ?_)
  show gather_S4x4_S4096x2x24x24x1_S4096x2x24x24x4_4_0_n_n_0_4_14.start i w a + gather_S4x4_S4096x2x24x24x1_S4096x2x24x24x4_4_0_n_n_0_4_14.batchCoord i a
    + gather_S4x4_S4096x2x24x24x1_S4096x2x24x24x4_4_0_n_n_0_4_14.offCoord i a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ gather_S4x4_S4096x2x24x24x1_S4096x2x24x24x4_4_0_n_n_0_4_14.startIndexMap from List.mem_singleton.mpr rfl)]
    show min (w (gather_S4x4_S4096x2x24x24x1_S4096x2x24x24x4_4_0_n_n_0_4_14.siIdx i ⟨List.idxOf (0 : Fin 2) _, _⟩)).toInt.toNat (4 - 1) + 0 + 0 = (w j).toNat % 4
    rw [hsi, BitVec.toInt_eq_toNat_cond]
    split <;> omega
  | ⟨1, _⟩ =>
    have hi : (i 4).val < 4 := (i 4).isLt
    have hs : gather_S4x4_S4096x2x24x24x1_S4096x2x24x24x4_4_0_n_n_0_4_14.start i w ⟨1, by decide⟩ = 0 := by
      unfold GatherDims.start
      exact dif_neg (show (⟨1, by decide⟩ : Fin 2) ∉ ([0] : List (Fin 2)) by decide)
    rw [hs]
    show 0 + 0 + (i 4).val = (i 4).val % 4
    omega

/-- The start indices: the tile types, a negative one moved up by 4, with a trailing axis of one. -/
abbrev starts (a0 : IVec S4096x2x24x24 32) : IVec S4096x2x24x24x1 32 :=
  broadcastInDim S4096x2x24x24x1 ![0, 1, 2, 3] bcast_S4096x2x24x24_S4096x2x24x24x1_0_1_2_3
    (select (cmpi .slt a0 (broadcastInDim S4096x2x24x24 ![] bcast_S_S4096x2x24x24 (constantI S_ 32 0#32)))
      (addi a0 (broadcastInDim S4096x2x24x24 ![] bcast_S_S4096x2x24x24 (constantI S_ 32 4#32))) a0)

/-- An axis of one appended. -/
theorem append_one {α : Type} (x : S4096x2x24x24.Idx → α) (j : S4096x2x24x24x1.Idx) :
    broadcastInDim S4096x2x24x24x1 ![0, 1, 2, 3] bcast_S4096x2x24x24_S4096x2x24x24x1_0_1_2_3 x j = x (pos j) :=
  broadcastInDim_apply _ _ _ j (pos j) (fun a => by
    match a with
    | ⟨0, _⟩ => rfl
    | ⟨1, _⟩ => rfl
    | ⟨2, _⟩ => rfl
    | ⟨3, _⟩ => rfl)

/-- A start index: a tile type that is below 4 is not moved. -/
theorem starts_apply (a0 : IVec S4096x2x24x24 32) (j : S4096x2x24x24x1.Idx) (h : (a0 (pos j)).toNat < 4) : starts a0 j = a0 (pos j) := by
  rw [starts, append_one]
  show (if BitVec.ofBool ((a0 (pos j)).slt 0#32) = 1#1 then _ else a0 (pos j)) = _
  have : (a0 (pos j)).slt 0#32 = false := by
    rw [Bool.eq_false_iff, ne_eq, BitVec.slt_iff_toInt_lt, BitVec.toInt_eq_toNat_cond]
    have e0 : (0#32).toInt = 0 := by decide
    rw [e0]
    split <;> omega
  rw [this]; rfl

/-- A word below 4 is within the bounds the lookup tests. -/
theorem within (w : BitVec 32) (h : w.toNat < 4) : IntOp.andi (IntOp.cmpi .sge w 0#32) (IntOp.cmpi .sle w 3#32) = 1#1 := by
  have h0 : (0#32).sle w = true := by
    rw [BitVec.sle_iff_toInt_le, BitVec.toInt_eq_toNat_cond w, show (0#32).toInt = 0 by decide]
    split <;> omega
  have h3 : w.sle 3#32 = true := by
    rw [BitVec.sle_iff_toInt_le, BitVec.toInt_eq_toNat_cond w, show (3#32).toInt = 3 by decide]
    split <;> omega
  show IntOp.andi (BitVec.ofBool ((0#32).sle w)) (BitVec.ofBool (w.sle 3#32)) = 1#1
  rw [h0, h3]; rfl

/-- The lookup's test of a position: its start index is within the table. -/
abbrev mask (a0 : IVec S4096x2x24x24 32) : IVec S4096x2x24x24 1 :=
  Host.reduce IntOp.andi (andi (cmpi .sge (starts a0) (broadcastInDim S4096x2x24x24x1 ![] bcast_S_S4096x2x24x24x1 (constantI S_ 32 0#32)))
    (cmpi .sle (starts a0) (broadcastInDim S4096x2x24x24x1 ![0, 1, 2, 3, 4] bcast_S1x1x1x1x1_S4096x2x24x24x1_0_1_2_3_4
      (broadcastInDim S1x1x1x1x1 ![4] bcast_S1_S1x1x1x1x1_4 (constantI S1 32 3#32))))) (constantI S_ 1 1#1)
    reducesTo_S4096x2x24x24x1_S4096x2x24x24_d4 h_S_

/-- Tile types below 4 pass it. -/
theorem mask_apply (a0 : IVec S4096x2x24x24 32) (h : ∀ p, (a0 p).toNat < 4) (p : S4096x2x24x24.Idx) : mask a0 p = 1#1 := by
  unfold mask Host.reduce
  refine (foldl_andi _ _ _).mpr ⟨rfl, fun n _ => ?_⟩
  show IntOp.andi (IntOp.cmpi .sge (starts a0 _) 0#32) (IntOp.cmpi .sle (starts a0 _) 3#32) = 1#1
  rw [starts_apply a0 _ (h _)]
  exact within _ (h _)

/-- The looked-up rows, positions that fail the test filled with a value of no number. -/
abbrev looked (a0 : IVec S4096x2x24x24 32) (a4 : FVec F S4x4 .f32) : FVec F S4096x2x24x24x4 .f32 :=
  select (broadcastInDim S4096x2x24x24x4 ![0, 1, 2, 3] bcast_S4096x2x24x24_S4096x2x24x24x4_0_1_2_3 (mask a0))
    (Host.gather gather_S4x4_S4096x2x24x24x1_S4096x2x24x24x4_4_0_n_n_0_4_14 a4 (starts a0))
    (broadcastInDim S4096x2x24x24x4 ![] bcast_S_S4096x2x24x24x4 (constant S_ .f32 0x7FC00000#32))

/-- A choice whose bit is one. -/
theorem select_of_one {s : Shape} {α : Type} (c : IVec s 1) (x y : s.Idx → α) (i : s.Idx) (h : c i = 1#1) : select c x y i = x i := if_pos h

theorem looked_apply (a0 : IVec S4096x2x24x24 32) (a4 : FVec F S4x4 .f32) (h : ∀ p, (a0 p).toNat < 4) (i : S4096x2x24x24x4.Idx) :
    looked a0 a4 i = a4 (entry (a0 (pos i)).toNat (i 4).val) := by
  have hm : broadcastInDim S4096x2x24x24x4 ![0, 1, 2, 3] bcast_S4096x2x24x24_S4096x2x24x24x4_0_1_2_3 (mask a0) i = 1#1 := mask_apply a0 h _
  let j : S4096x2x24x24x1.Idx := fun
    | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩
    | ⟨4, _⟩ => ⟨0, Nat.one_pos⟩
  have hp : pos j = pos i := funext fun a => by
    match a with
    | ⟨0, _⟩ => rfl
    | ⟨1, _⟩ => rfl
    | ⟨2, _⟩ => rfl
    | ⟨3, _⟩ => rfl
  have hs : starts a0 j = a0 (pos i) := by rw [starts_apply a0 j (h _), hp]
  rw [looked, select_of_one _ _ _ i hm, gather_apply a4 (starts a0) i j rfl rfl rfl rfl (by rw [hs]; exact h _), hs]

/-- The rewards repeated over the boards. -/
abbrev rewards (a3 : FVec F S4096x2 .f32) : FVec F S4096x2x24x24x1 .f32 :=
  shapeCast S4096x2x24x24x1 (broadcastInDim S1x4096x1x2x24x1x24x1x1x1 ![0, 1, 2, 3, 4, 5, 6, 7, 8, 9] bcast_S1x4096x1x2x1x1x1x1x1x1_S1x4096x1x2x24x1x24x1x1x1_0_1_2_3_4_5_6_7_8_9
    (shapeCast S1x4096x1x2x1x1x1x1x1x1 (shapeCast S4096x2x1x1x1 a3 shapeCasts_S4096x2_S4096x2x1x1x1) shapeCasts_S4096x2x1x1x1_S1x4096x1x2x1x1x1x1x1x1))
    shapeCasts_S1x4096x1x2x24x1x24x1x1x1_S4096x2x24x24x1

/-- A row-major position at rank 10. -/
theorem rowMajor_val_ten {d : Fin 10 → Nat} (i : (⟨10, d⟩ : Shape).Idx) :
    ((⟨10, d⟩ : Shape).rowMajor i).val
      = ((((((((((i 0).val * d 1 + (i 1).val) * d 2 + (i 2).val) * d 3 + (i 3).val) * d 4 + (i 4).val) * d 5 + (i 5).val) * d 6 + (i 6).val) * d 7 + (i 7).val) * d 8
          + (i 8).val) * d 9 + (i 9).val) := by
  rw [Shape.rowMajor_val_succ, Shape.rowMajor_val_succ, Shape.rowMajor_val_succ, Shape.rowMajor_val_succ, Shape.rowMajor_val_succ, Shape.rowMajor_val_five]
  simp only [Shape.numel, Fin.prod_univ_succ, Finset.univ_unique, Finset.prod_singleton, Fin.succ_zero_eq_one, Nat.add_mul, Nat.mul_assoc, Nat.add_assoc]
  rfl

theorem rewards_apply (a3 : FVec F S4096x2 .f32) (i : S4096x2x24x24x1.Idx) : rewards a3 i = a3 (env i) := by
  have hi : (i 4).val < 1 := (i 4).isLt
  let k : S1x4096x1x2x24x1x24x1x1x1.Idx := fun
    | ⟨0, _⟩ => ⟨0, Nat.one_pos⟩ | ⟨1, _⟩ => ⟨(i 0).val, (i 0).isLt⟩ | ⟨2, _⟩ => ⟨0, Nat.one_pos⟩ | ⟨3, _⟩ => ⟨(i 1).val, (i 1).isLt⟩ | ⟨4, _⟩ => ⟨(i 2).val, (i 2).isLt⟩
    | ⟨5, _⟩ => ⟨0, Nat.one_pos⟩ | ⟨6, _⟩ => ⟨(i 3).val, (i 3).isLt⟩ | ⟨7, _⟩ => ⟨0, Nat.one_pos⟩ | ⟨8, _⟩ => ⟨0, Nat.one_pos⟩ | ⟨9, _⟩ => ⟨0, Nat.one_pos⟩
  let l : S1x4096x1x2x1x1x1x1x1x1.Idx := fun
    | ⟨0, _⟩ => ⟨0, Nat.one_pos⟩ | ⟨1, _⟩ => ⟨(i 0).val, (i 0).isLt⟩ | ⟨2, _⟩ => ⟨0, Nat.one_pos⟩ | ⟨3, _⟩ => ⟨(i 1).val, (i 1).isLt⟩ | ⟨4, _⟩ => ⟨0, Nat.one_pos⟩
    | ⟨5, _⟩ => ⟨0, Nat.one_pos⟩ | ⟨6, _⟩ => ⟨0, Nat.one_pos⟩ | ⟨7, _⟩ => ⟨0, Nat.one_pos⟩ | ⟨8, _⟩ => ⟨0, Nat.one_pos⟩ | ⟨9, _⟩ => ⟨0, Nat.one_pos⟩
  let n : S4096x2x1x1x1.Idx := fun
    | ⟨0, _⟩ => ⟨(i 0).val, (i 0).isLt⟩ | ⟨1, _⟩ => ⟨(i 1).val, (i 1).isLt⟩ | ⟨2, _⟩ => ⟨0, Nat.one_pos⟩ | ⟨3, _⟩ => ⟨0, Nat.one_pos⟩ | ⟨4, _⟩ => ⟨0, Nat.one_pos⟩
  rw [rewards, shapeCast_apply _ _ i k, broadcastInDim_apply _ _ _ k l, shapeCast_apply _ _ l n, shapeCast_apply _ _ n (env i)]
  · rw [Shape.rowMajor_val_two, Shape.rowMajor_val_five]
    show (i 0).val * 2 + (i 1).val = ((((i 0).val * 2 + (i 1).val) * 1 + 0) * 1 + 0) * 1 + 0
    omega
  · rw [Shape.rowMajor_val_five, rowMajor_val_ten]
    show ((((i 0).val * 2 + (i 1).val) * 1 + 0) * 1 + 0) * 1 + 0
      = (((((((((0 * 4096 + (i 0).val) * 1 + 0) * 2 + (i 1).val) * 1 + 0) * 1 + 0) * 1 + 0) * 1 + 0) * 1 + 0) * 1 + 0)
    omega
  · intro a
    fin_cases a <;> rfl
  · rw [Shape.rowMajor_val_five, rowMajor_val_ten]
    show (((((((((0 * 4096 + (i 0).val) * 1 + 0) * 2 + (i 1).val) * 24 + (i 2).val) * 1 + 0) * 24 + (i 3).val) * 1 + 0) * 1 + 0) * 1 + 0)
      = ((((i 0).val * 2 + (i 1).val) * 24 + (i 2).val) * 24 + (i 3).val) * 1 + (i 4).val
    omega

/-! ## The whole -/

/-- The reference's composed term. -/
abbrev whole (a0 : IVec S4096x2x24x24 32) (a1 : FVec F S4096x2x24x24 .f32) (a2 : IVec S4096x2x24x24 32) (a3 : FVec F S4096x2 .f32) (a4 : FVec F S4x4 .f32) :
    FVec F S4096x2x24x24x7 .f32 :=
  concatenate S4096x2x24x24x7 4
    [⟨S4096x2x24x24x4, looked a0 a4⟩, ⟨S4096x2x24x24x1, broadcastInDim S4096x2x24x24x1 ![0, 1, 2, 3] bcast_S4096x2x24x24_S4096x2x24x24x1_0_1_2_3 a1⟩,
      ⟨S4096x2x24x24x1, sitofp .f32 (broadcastInDim S4096x2x24x24x1 ![0, 1, 2, 3] bcast_S4096x2x24x24_S4096x2x24x24x1_0_1_2_3 a2)⟩, ⟨S4096x2x24x24x1, rewards a3⟩]
    concatenates_S4096x2x24x24x4_S4096x2x24x24x1_S4096x2x24x24x1_S4096x2x24x24x1_S4096x2x24x24x7_d4

/-- An index of the result moved to a piece's: the same position, column `c` of the piece. -/
def piece (n : ℕ) (i : S4096x2x24x24x7.Idx) (c : ℕ) (h : c < n) : (⟨5, ![4096, 2, 24, 24, n]⟩ : Shape).Idx := fun
  | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩ | ⟨4, _⟩ => ⟨c, h⟩

theorem pos_piece (n : ℕ) (i : S4096x2x24x24x7.Idx) (c : ℕ) (h : c < n) : pos (piece n i c h) = pos i := funext fun a => by
  match a with
  | ⟨0, _⟩ => rfl
  | ⟨1, _⟩ => rfl
  | ⟨2, _⟩ => rfl
  | ⟨3, _⟩ => rfl

theorem env_piece (n : ℕ) (i : S4096x2x24x24x7.Idx) (c : ℕ) (h : c < n) : env (piece n i c h) = env i := funext fun a => by
  match a with
  | ⟨0, _⟩ => rfl
  | ⟨1, _⟩ => rfl

/-- Off the last axis a piece's index has the result's coordinates. -/
theorem piece_off (n : ℕ) (i : S4096x2x24x24x7.Idx) (c : ℕ) (h : c < n) (b : Fin 5) (hb : b ≠ 4) : (piece n i c h b).val = (i b).val := by
  match b with
  | ⟨0, _⟩ => rfl
  | ⟨1, _⟩ => rfl
  | ⟨2, _⟩ => rfl
  | ⟨3, _⟩ => rfl
  | ⟨4, _⟩ => exact absurd rfl hb

/-- With tile types below 4 the reference's result is `row` at every index. -/
theorem whole_eq (a0 : IVec S4096x2x24x24 32) (a1 : FVec F S4096x2x24x24 .f32) (a2 : IVec S4096x2x24x24 32) (a3 : FVec F S4096x2 .f32) (a4 : FVec F S4x4 .f32)
    (h : ∀ p, (a0 p).toNat < 4) : whole a0 a1 a2 a3 a4 = row a0 a1 a2 a3 a4 := by
  funext i
  have hi : (i 4).val < 7 := (i 4).isLt
  unfold row
  by_cases h4 : (i 4).val < 4
  · rw [if_pos h4]
    refine (concatenate_apply_piece (t := S4096x2x24x24x7) 4 _ _ i 0 (by show 0 < 4; decide) S4096x2x24x24x4 (looked a0 a4) rfl rfl 0 rfl (piece 4 i (i 4).val h4)
      (fun b hb => piece_off 4 i _ h4 b hb) (Nat.zero_add _)).trans ?_
    rw [looked_apply a0 a4 h]
    exact congrArg (fun p => a4 (entry (a0 p).toNat (i 4).val)) (pos_piece 4 i _ h4)
  rw [if_neg h4]
  by_cases h5 : (i 4).val = 4
  · rw [if_pos h5]
    refine (concatenate_apply_piece (t := S4096x2x24x24x7) 4 _ _ i 1 (by show 1 < 4; decide) S4096x2x24x24x1 _ rfl rfl 4 rfl (piece 1 i 0 Nat.one_pos)
      (fun b hb => piece_off 1 i _ _ b hb) h5.symm).trans ?_
    rw [append_one, pos_piece]
  rw [if_neg h5]
  by_cases h6 : (i 4).val = 5
  · rw [if_pos h6]
    refine (concatenate_apply_piece (t := S4096x2x24x24x7) 4 _ _ i 2 (by show 2 < 4; decide) S4096x2x24x24x1 _ rfl rfl 5 rfl (piece 1 i 0 Nat.one_pos)
      (fun b hb => piece_off 1 i _ _ b hb) h6.symm).trans ?_
    exact congrArg (FloatOps.sitofp .f32) ((append_one a2 _).trans (congrArg a2 (pos_piece 1 i 0 Nat.one_pos)))
  · rw [if_neg h6]
    refine (concatenate_apply_piece (t := S4096x2x24x24x7) 4 _ _ i 3 (by show 3 < 4; decide) S4096x2x24x24x1 _ rfl rfl 6 rfl (piece 1 i 0 Nat.one_pos)
      (fun b hb => piece_off 1 i _ _ b hb) (show 6 + 0 = (i 4).val by omega)).trans ?_
    rw [rewards_apply, env_piece]

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_types
public import proofs.«01_k».proof.Proof.Main
public import proofs.«01_k».proof.Proof.Algebraic
public import proofs.«01_k».proof.Proof.Reference

@[expose] public section

noncomputable section

namespace Cert.Proof

open Idealize.ShloMosaic Idealize.SL.Sem

/-- The kernel's frame. -/
theorem frame_Kernel : Cert.quiescent_Kernel := fun m g hpre =>
  (θ_run Cert.Kernel.defs _ _).mono (fun _ h => ⟨fun c => (h.1 c).2, h.2⟩)
    (KernelRun.run_main (F := Bits) m g fun d _ => Row.in_range (F := Bits) _ _ _ _ _ (hpre d) _)

/-- The ideal kernel's run: no operation was rewritten, so its text is the kernel's, and the kernel's run, proved for any
    float values, is its run. -/
theorem run_ideal (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_v8) = KernelRun.result (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  KernelRun.run_main (F := Ideal) m g fun d _ => Row.in_range (F := Ideal) _ _ _ _ _ (hpre d) _

/-- The ideal kernel's frame. -/
theorem frame_KernelIdeal : Cert.quiescent_KernelIdeal := fun m g hpre =>
  (θ_run Cert.KernelIdeal.defs _ _).mono (fun _ h => ⟨fun c => (h.1 c).2, h.2⟩) (run_ideal m g hpre)

/-- The reference's frame, under the kernel's condition; the reference declares no semaphore. -/
theorem frame_ReferenceIdeal_in_types : Cert.quiescent_ReferenceIdeal_pre_in_types := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's frame, from every memory. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree on the arguments, the tile types in range, the kernel's result and the reference's are equal:
    both are `Row.row` of the five arguments. -/
theorem algebraic : Cert.algebraic_KernelIdeal_ReferenceIdeal := fun m g m' g' hpre hargs => by
  have hA : ∀ (d : Dev Cert.KernelIdeal.nD) (p : Row.Board.Idx),
      BitVec.toNat ((KernelRun.arr (F := Ideal) m d Cert.Kernel.main_arg0 : Row.Board.Idx → BitVec 32) p) < 4 :=
    fun d p => Row.in_range (F := Ideal) _ _ _ _ _ (hpre d) p
  refine ⟨fun c => KernelRun.result (F := Ideal) m c,
    (θ_run Cert.KernelIdeal.defs _ _).mono (fun _ h => h.1) (run_ideal m g hpre),
    (θ_run Cert.ReferenceIdeal.defs _ _).mono (fun _ h c => ⟨(h c).1.trans ?_, (h c).2⟩) (Cert.ReferenceIdeal.Value.run (F := Ideal) m' g')⟩
  obtain ⟨e0, e1, e2, e3, e4⟩ := hargs c
  rw [e0, e1, e2, e3, e4]
  exact (Reference.whole_eq (F := Ideal) _ _ _ _ _ (hA c)).trans (KernelRun.result_eq (F := Ideal) m c (hA c)).symm

/-- Every claim of the certificate. -/
theorem claim : Cert.Claim := ⟨Cert.Kernel.Gen.facts, Cert.KernelIdeal.Gen.facts, Cert.ReferenceIdeal.Gen.facts, Cert.Pre_in_types.Gen.facts,
  frame_Kernel, frame_KernelIdeal, frame_ReferenceIdeal, frame_ReferenceIdeal_in_types, trivial, algebraic⟩

end Cert.Proof

end
